-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_CtxProjKernel (m : (ℓ : Loc Cert.CtxProjKernel.nD Cert.CtxProjKernel.τ Cert.CtxProjKernel.sig) → Buf (Elt Bits) ℓ) : Prop :=
  True

def Pre_CtxProjKernelIdeal (m : (ℓ : Loc Cert.CtxProjKernelIdeal.nD Cert.CtxProjKernelIdeal.τ Cert.CtxProjKernelIdeal.sig) → Buf (Elt Ideal) ℓ) : Prop :=
  True

def Pre_CtxProjReferenceIdeal (m : (ℓ : Loc Cert.CtxProjReferenceIdeal.nD Cert.CtxProjReferenceIdeal.τ Cert.CtxProjReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_CtxMergeKernel (m : (ℓ : Loc Cert.CtxMergeKernel.nD Cert.CtxMergeKernel.τ Cert.CtxMergeKernel.sig) → Buf (Elt Bits) ℓ) : Prop :=
  True

def Pre_CtxMergeKernelIdeal (m : (ℓ : Loc Cert.CtxMergeKernelIdeal.nD Cert.CtxMergeKernelIdeal.τ Cert.CtxMergeKernelIdeal.sig) → Buf (Elt Ideal) ℓ) : Prop :=
  True

def Pre_CtxMergeReferenceIdeal (m : (ℓ : Loc Cert.CtxMergeReferenceIdeal.nD Cert.CtxMergeReferenceIdeal.τ Cert.CtxMergeReferenceIdeal.sig) → Buf (Elt Ideal) ℓ) : Prop :=
  True

def Pre_LastProjKernel (m : (ℓ : Loc Cert.LastProjKernel.nD Cert.LastProjKernel.τ Cert.LastProjKernel.sig) → Buf (Elt Bits) ℓ) : Prop :=
  True

def Pre_LastProjKernelIdeal (m : (ℓ : Loc Cert.LastProjKernelIdeal.nD Cert.LastProjKernelIdeal.τ Cert.LastProjKernelIdeal.sig) → Buf (Elt Ideal) ℓ) : Prop :=
  True

def Pre_LastProjReferenceIdeal (m : (ℓ : Loc Cert.LastProjReferenceIdeal.nD Cert.LastProjReferenceIdeal.τ Cert.LastProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_CtxProjKernel [hCtxProjKernel : Cert.CtxProjKernel.Facts] : Prop :=
  ∀ (m : (ℓ : Loc Cert.CtxProjKernel.nD Cert.CtxProjKernel.τ Cert.CtxProjKernel.sig) → Buf (Elt Bits) ℓ) (g : Dev Cert.CtxProjKernel.nD → PrngReg), Pre_CtxProjKernel m →
    θ_run (Cert.CtxProjKernel.defs (F := Bits)) (onTc (τ := Cert.CtxProjKernel.τ) (Cert.CtxProjKernel.main (F := Bits))) ⟨m, fun _ => 0, g⟩ (fun r => (∀ c : Dev Cert.CtxProjKernel.nD,
      r.2.mem ((c.tc : Thread Cert.CtxProjKernel.nD Cert.CtxProjKernel.τ).loc Cert.CtxProjKernel.main_arg0) = m ((c.tc : Thread Cert.CtxProjKernel.nD Cert.CtxProjKernel.τ).loc Cert.CtxProjKernel.main_arg0)
      ∧ r.2.mem ((c.tc : Thread Cert.CtxProjKernel.nD Cert.CtxProjKernel.τ).loc Cert.CtxProjKernel.main_arg1) = m ((c.tc : Thread Cert.CtxProjKernel.nD Cert.CtxProjKernel.τ).loc Cert.CtxProjKernel.main_arg1)
      ∧ r.2.mem ((c.tc : Thread Cert.CtxProjKernel.nD Cert.CtxProjKernel.τ).loc Cert.CtxProjKernel.main_arg2) = m ((c.tc : Thread Cert.CtxProjKernel.nD Cert.CtxProjKernel.τ).loc Cert.CtxProjKernel.main_arg2)
      ∧ r.2.mem ((c.tc : Thread Cert.CtxProjKernel.nD Cert.CtxProjKernel.τ).loc Cert.CtxProjKernel.main_arg3) = m ((c.tc : Thread Cert.CtxProjKernel.nD Cert.CtxProjKernel.τ).loc Cert.CtxProjKernel.main_arg3))
      ∧ r.2.sem = fun _ => 0)

def quiescent_CtxProjKernelIdeal [hCtxProjKernelIdeal : Cert.CtxProjKernelIdeal.Facts] : Prop :=
  ∀ (m : (ℓ : Loc Cert.CtxProjKernelIdeal.nD Cert.CtxProjKernelIdeal.τ Cert.CtxProjKernelIdeal.sig) → Buf (Elt Ideal) ℓ) (g : Dev Cert.CtxProjKernelIdeal.nD → PrngReg), Pre_CtxProjKernelIdeal m →
    θ_run (Cert.CtxProjKernelIdeal.defs (F := Ideal)) (onTc (τ := Cert.CtxProjKernelIdeal.τ) (Cert.CtxProjKernelIdeal.main (F := Ideal))) ⟨m, fun _ => 0, g⟩ (fun r => (∀ c : Dev Cert.CtxProjKernelIdeal.nD,
      r.2.mem ((c.tc : Thread Cert.CtxProjKernelIdeal.nD Cert.CtxProjKernelIdeal.τ).loc Cert.CtxProjKernelIdeal.main_arg0) = m ((c.tc : Thread Cert.CtxProjKernelIdeal.nD Cert.CtxProjKernelIdeal.τ).loc Cert.CtxProjKernelIdeal.main_arg0)
      ∧ r.2.mem ((c.tc : Thread Cert.CtxProjKernelIdeal.nD Cert.CtxProjKernelIdeal.τ).loc Cert.CtxProjKernelIdeal.main_arg1) = m ((c.tc : Thread Cert.CtxProjKernelIdeal.nD Cert.CtxProjKernelIdeal.τ).loc Cert.CtxProjKernelIdeal.main_arg1)
      ∧ r.2.mem ((c.tc : Thread Cert.CtxProjKernelIdeal.nD Cert.CtxProjKernelIdeal.τ).loc Cert.CtxProjKernelIdeal.main_arg2) = m ((c.tc : Thread Cert.CtxProjKernelIdeal.nD Cert.CtxProjKernelIdeal.τ).loc Cert.CtxProjKernelIdeal.main_arg2)
      ∧ r.2.mem ((c.tc : Thread Cert.CtxProjKernelIdeal.nD Cert.CtxProjKernelIdeal.τ).loc Cert.CtxProjKernelIdeal.main_arg3) = m ((c.tc : Thread Cert.CtxProjKernelIdeal.nD Cert.CtxProjKernelIdeal.τ).loc Cert.CtxProjKernelIdeal.main_arg3))
      ∧ r.2.sem = fun _ => 0)

def quiescent_CtxProjReferenceIdeal [hCtxProjReferenceIdeal : Cert.CtxProjReferenceIdeal.Facts] : Prop :=
  ∀ (m : (ℓ : Loc Cert.CtxProjReferenceIdeal.nD Cert.CtxProjReferenceIdeal.τ Cert.CtxProjReferenceIdeal.sig) → Buf (Elt Ideal) ℓ) (g : Dev Cert.CtxProjReferenceIdeal.nD → PrngReg), Pre_CtxProjReferenceIdeal m →
    θ_run (Cert.CtxProjReferenceIdeal.defs (F := Ideal)) (onTc (τ := Cert.CtxProjReferenceIdeal.τ) (Cert.CtxProjReferenceIdeal.main (F := Ideal))) ⟨m, fun _ => 0, g⟩ (fun r => (∀ c : Dev Cert.CtxProjReferenceIdeal.nD,
      r.2.mem ((c.tc : Thread Cert.CtxProjReferenceIdeal.nD Cert.CtxProjReferenceIdeal.τ).loc Cert.CtxProjReferenceIdeal.main_arg0) = m ((c.tc : Thread Cert.CtxProjReferenceIdeal.nD Cert.CtxProjReferenceIdeal.τ).loc Cert.CtxProjReferenceIdeal.main_arg0)
      ∧ r.2.mem ((c.tc : Thread Cert.CtxProjReferenceIdeal.nD Cert.CtxProjReferenceIdeal.τ).loc Cert.CtxProjReferenceIdeal.main_arg1) = m ((c.tc : Thread Cert.CtxProjReferenceIdeal.nD Cert.CtxProjReferenceIdeal.τ).loc Cert.CtxProjReferenceIdeal.main_arg1)
      ∧ r.2.mem ((c.tc : Thread Cert.CtxProjReferenceIdeal.nD Cert.CtxProjReferenceIdeal.τ).loc Cert.CtxProjReferenceIdeal.main_arg2) = m ((c.tc : Thread Cert.CtxProjReferenceIdeal.nD Cert.CtxProjReferenceIdeal.τ).loc Cert.CtxProjReferenceIdeal.main_arg2)
      ∧ r.2.mem ((c.tc : Thread Cert.CtxProjReferenceIdeal.nD Cert.CtxProjReferenceIdeal.τ).loc Cert.CtxProjReferenceIdeal.main_arg3) = m ((c.tc : Thread Cert.CtxProjReferenceIdeal.nD Cert.CtxProjReferenceIdeal.τ).loc Cert.CtxProjReferenceIdeal.main_arg3))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_CtxMergeKernel [hCtxMergeKernel : Cert.CtxMergeKernel.Facts] : Prop :=
  ∀ (m : (ℓ : Loc Cert.CtxMergeKernel.nD Cert.CtxMergeKernel.τ Cert.CtxMergeKernel.sig) → Buf (Elt Bits) ℓ) (g : Dev Cert.CtxMergeKernel.nD → PrngReg), Pre_CtxMergeKernel m →
    θ_run (Cert.CtxMergeKernel.defs (F := Bits)) (onTc (τ := Cert.CtxMergeKernel.τ) (Cert.CtxMergeKernel.main (F := Bits))) ⟨m, fun _ => 0, g⟩ (fun r => (∀ c : Dev Cert.CtxMergeKernel.nD,
      r.2.mem ((c.tc : Thread Cert.CtxMergeKernel.nD Cert.CtxMergeKernel.τ).loc Cert.CtxMergeKernel.main_arg0) = m ((c.tc : Thread Cert.CtxMergeKernel.nD Cert.CtxMergeKernel.τ).loc Cert.CtxMergeKernel.main_arg0)
      ∧ r.2.mem ((c.tc : Thread Cert.CtxMergeKernel.nD Cert.CtxMergeKernel.τ).loc Cert.CtxMergeKernel.main_arg1) = m ((c.tc : Thread Cert.CtxMergeKernel.nD Cert.CtxMergeKernel.τ).loc Cert.CtxMergeKernel.main_arg1)
      ∧ r.2.mem ((c.tc : Thread Cert.CtxMergeKernel.nD Cert.CtxMergeKernel.τ).loc Cert.CtxMergeKernel.main_arg2) = m ((c.tc : Thread Cert.CtxMergeKernel.nD Cert.CtxMergeKernel.τ).loc Cert.CtxMergeKernel.main_arg2)
      ∧ r.2.mem ((c.tc : Thread Cert.CtxMergeKernel.nD Cert.CtxMergeKernel.τ).loc Cert.CtxMergeKernel.main_arg3) = m ((c.tc : Thread Cert.CtxMergeKernel.nD Cert.CtxMergeKernel.τ).loc Cert.CtxMergeKernel.main_arg3)
      ∧ r.2.mem ((c.tc : Thread Cert.CtxMergeKernel.nD Cert.CtxMergeKernel.τ).loc Cert.CtxMergeKernel.main_arg4) = m ((c.tc : Thread Cert.CtxMergeKernel.nD Cert.CtxMergeKernel.τ).loc Cert.CtxMergeKernel.main_arg4)
      ∧ r.2.mem ((c.tc : Thread Cert.CtxMergeKernel.nD Cert.CtxMergeKernel.τ).loc Cert.CtxMergeKernel.main_arg5) = m ((c.tc : Thread Cert.CtxMergeKernel.nD Cert.CtxMergeKernel.τ).loc Cert.CtxMergeKernel.main_arg5)
      ∧ r.2.mem ((c.tc : Thread Cert.CtxMergeKernel.nD Cert.CtxMergeKernel.τ).loc Cert.CtxMergeKernel.main_arg6) = m ((c.tc : Thread Cert.CtxMergeKernel.nD Cert.CtxMergeKernel.τ).loc Cert.CtxMergeKernel.main_arg6)
      ∧ r.2.mem ((c.tc : Thread Cert.CtxMergeKernel.nD Cert.CtxMergeKernel.τ).loc Cert.CtxMergeKernel.main_arg7) = m ((c.tc : Thread Cert.CtxMergeKernel.nD Cert.CtxMergeKernel.τ).loc Cert.CtxMergeKernel.main_arg7)
      ∧ r.2.mem ((c.tc : Thread Cert.CtxMergeKernel.nD Cert.CtxMergeKernel.τ).loc Cert.CtxMergeKernel.main_arg8) = m ((c.tc : Thread Cert.CtxMergeKernel.nD Cert.CtxMergeKernel.τ).loc Cert.CtxMergeKernel.main_arg8)
      ∧ r.2.mem ((c.tc : Thread Cert.CtxMergeKernel.nD Cert.CtxMergeKernel.τ).loc Cert.CtxMergeKernel.main_arg9) = m ((c.tc : Thread Cert.CtxMergeKernel.nD Cert.CtxMergeKernel.τ).loc Cert.CtxMergeKernel.main_arg9)
      ∧ r.2.mem ((c.tc : Thread Cert.CtxMergeKernel.nD Cert.CtxMergeKernel.τ).loc Cert.CtxMergeKernel.main_arg10) = m ((c.tc : Thread Cert.CtxMergeKernel.nD Cert.CtxMergeKernel.τ).loc Cert.CtxMergeKernel.main_arg10)
      ∧ r.2.mem ((c.tc : Thread Cert.CtxMergeKernel.nD Cert.CtxMergeKernel.τ).loc Cert.CtxMergeKernel.main_arg11) = m ((c.tc : Thread Cert.CtxMergeKernel.nD Cert.CtxMergeKernel.τ).loc Cert.CtxMergeKernel.main_arg11)
      ∧ r.2.mem ((c.tc : Thread Cert.CtxMergeKernel.nD Cert.CtxMergeKernel.τ).loc Cert.CtxMergeKernel.main_arg12) = m ((c.tc : Thread Cert.CtxMergeKernel.nD Cert.CtxMergeKernel.τ).loc Cert.CtxMergeKernel.main_arg12))
      ∧ r.2.sem = fun _ => 0)

def quiescent_CtxMergeKernelIdeal [hCtxMergeKernelIdeal : Cert.CtxMergeKernelIdeal.Facts] : Prop :=
  ∀ (m : (ℓ : Loc Cert.CtxMergeKernelIdeal.nD Cert.CtxMergeKernelIdeal.τ Cert.CtxMergeKernelIdeal.sig) → Buf (Elt Ideal) ℓ) (g : Dev Cert.CtxMergeKernelIdeal.nD → PrngReg), Pre_CtxMergeKernelIdeal m →
    θ_run (Cert.CtxMergeKernelIdeal.defs (F := Ideal)) (onTc (τ := Cert.CtxMergeKernelIdeal.τ) (Cert.CtxMergeKernelIdeal.main (F := Ideal))) ⟨m, fun _ => 0, g⟩ (fun r => (∀ c : Dev Cert.CtxMergeKernelIdeal.nD,
      r.2.mem ((c.tc : Thread Cert.CtxMergeKernelIdeal.nD Cert.CtxMergeKernelIdeal.τ).loc Cert.CtxMergeKernelIdeal.main_arg0) = m ((c.tc : Thread Cert.CtxMergeKernelIdeal.nD Cert.CtxMergeKernelIdeal.τ).loc Cert.CtxMergeKernelIdeal.main_arg0)
      ∧ r.2.mem ((c.tc : Thread Cert.CtxMergeKernelIdeal.nD Cert.CtxMergeKernelIdeal.τ).loc Cert.CtxMergeKernelIdeal.main_arg1) = m ((c.tc : Thread Cert.CtxMergeKernelIdeal.nD Cert.CtxMergeKernelIdeal.τ).loc Cert.CtxMergeKernelIdeal.main_arg1)
      ∧ r.2.mem ((c.tc : Thread Cert.CtxMergeKernelIdeal.nD Cert.CtxMergeKernelIdeal.τ).loc Cert.CtxMergeKernelIdeal.main_arg2) = m ((c.tc : Thread Cert.CtxMergeKernelIdeal.nD Cert.CtxMergeKernelIdeal.τ).loc Cert.CtxMergeKernelIdeal.main_arg2)
      ∧ r.2.mem ((c.tc : Thread Cert.CtxMergeKernelIdeal.nD Cert.CtxMergeKernelIdeal.τ).loc Cert.CtxMergeKernelIdeal.main_arg3) = m ((c.tc : Thread Cert.CtxMergeKernelIdeal.nD Cert.CtxMergeKernelIdeal.τ).loc Cert.CtxMergeKernelIdeal.main_arg3)
      ∧ r.2.mem ((c.tc : Thread Cert.CtxMergeKernelIdeal.nD Cert.CtxMergeKernelIdeal.τ).loc Cert.CtxMergeKernelIdeal.main_arg4) = m ((c.tc : Thread Cert.CtxMergeKernelIdeal.nD Cert.CtxMergeKernelIdeal.τ).loc Cert.CtxMergeKernelIdeal.main_arg4)
      ∧ r.2.mem ((c.tc : Thread Cert.CtxMergeKernelIdeal.nD Cert.CtxMergeKernelIdeal.τ).loc Cert.CtxMergeKernelIdeal.main_arg5) = m ((c.tc : Thread Cert.CtxMergeKernelIdeal.nD Cert.CtxMergeKernelIdeal.τ).loc Cert.CtxMergeKernelIdeal.main_arg5)
      ∧ r.2.mem ((c.tc : Thread Cert.CtxMergeKernelIdeal.nD Cert.CtxMergeKernelIdeal.τ).loc Cert.CtxMergeKernelIdeal.main_arg6) = m ((c.tc : Thread Cert.CtxMergeKernelIdeal.nD Cert.CtxMergeKernelIdeal.τ).loc Cert.CtxMergeKernelIdeal.main_arg6)
      ∧ r.2.mem ((c.tc : Thread Cert.CtxMergeKernelIdeal.nD Cert.CtxMergeKernelIdeal.τ).loc Cert.CtxMergeKernelIdeal.main_arg7) = m ((c.tc : Thread Cert.CtxMergeKernelIdeal.nD Cert.CtxMergeKernelIdeal.τ).loc Cert.CtxMergeKernelIdeal.main_arg7)
      ∧ r.2.mem ((c.tc : Thread Cert.CtxMergeKernelIdeal.nD Cert.CtxMergeKernelIdeal.τ).loc Cert.CtxMergeKernelIdeal.main_arg8) = m ((c.tc : Thread Cert.CtxMergeKernelIdeal.nD Cert.CtxMergeKernelIdeal.τ).loc Cert.CtxMergeKernelIdeal.main_arg8)
      ∧ r.2.mem ((c.tc : Thread Cert.CtxMergeKernelIdeal.nD Cert.CtxMergeKernelIdeal.τ).loc Cert.CtxMergeKernelIdeal.main_arg9) = m ((c.tc : Thread Cert.CtxMergeKernelIdeal.nD Cert.CtxMergeKernelIdeal.τ).loc Cert.CtxMergeKernelIdeal.main_arg9)
      ∧ r.2.mem ((c.tc : Thread Cert.CtxMergeKernelIdeal.nD Cert.CtxMergeKernelIdeal.τ).loc Cert.CtxMergeKernelIdeal.main_arg10) = m ((c.tc : Thread Cert.CtxMergeKernelIdeal.nD Cert.CtxMergeKernelIdeal.τ).loc Cert.CtxMergeKernelIdeal.main_arg10)
      ∧ r.2.mem ((c.tc : Thread Cert.CtxMergeKernelIdeal.nD Cert.CtxMergeKernelIdeal.τ).loc Cert.CtxMergeKernelIdeal.main_arg11) = m ((c.tc : Thread Cert.CtxMergeKernelIdeal.nD Cert.CtxMergeKernelIdeal.τ).loc Cert.CtxMergeKernelIdeal.main_arg11)
      ∧ r.2.mem ((c.tc : Thread Cert.CtxMergeKernelIdeal.nD Cert.CtxMergeKernelIdeal.τ).loc Cert.CtxMergeKernelIdeal.main_arg12) = m ((c.tc : Thread Cert.CtxMergeKernelIdeal.nD Cert.CtxMergeKernelIdeal.τ).loc Cert.CtxMergeKernelIdeal.main_arg12))
      ∧ r.2.sem = fun _ => 0)

def quiescent_CtxMergeReferenceIdeal [hCtxMergeReferenceIdeal : Cert.CtxMergeReferenceIdeal.Facts] : Prop :=
  ∀ (m : (ℓ : Loc Cert.CtxMergeReferenceIdeal.nD Cert.CtxMergeReferenceIdeal.τ Cert.CtxMergeReferenceIdeal.sig) → Buf (Elt Ideal) ℓ) (g : Dev Cert.CtxMergeReferenceIdeal.nD → PrngReg), Pre_CtxMergeReferenceIdeal m →
    θ_run (Cert.CtxMergeReferenceIdeal.defs (F := Ideal)) (onTc (τ := Cert.CtxMergeReferenceIdeal.τ) (Cert.CtxMergeReferenceIdeal.main (F := Ideal))) ⟨m, fun _ => 0, g⟩ (fun r => (∀ c : Dev Cert.CtxMergeReferenceIdeal.nD,
      r.2.mem ((c.tc : Thread Cert.CtxMergeReferenceIdeal.nD Cert.CtxMergeReferenceIdeal.τ).loc Cert.CtxMergeReferenceIdeal.main_arg0) = m ((c.tc : Thread Cert.CtxMergeReferenceIdeal.nD Cert.CtxMergeReferenceIdeal.τ).loc Cert.CtxMergeReferenceIdeal.main_arg0)
      ∧ r.2.mem ((c.tc : Thread Cert.CtxMergeReferenceIdeal.nD Cert.CtxMergeReferenceIdeal.τ).loc Cert.CtxMergeReferenceIdeal.main_arg1) = m ((c.tc : Thread Cert.CtxMergeReferenceIdeal.nD Cert.CtxMergeReferenceIdeal.τ).loc Cert.CtxMergeReferenceIdeal.main_arg1)
      ∧ r.2.mem ((c.tc : Thread Cert.CtxMergeReferenceIdeal.nD Cert.CtxMergeReferenceIdeal.τ).loc Cert.CtxMergeReferenceIdeal.main_arg2) = m ((c.tc : Thread Cert.CtxMergeReferenceIdeal.nD Cert.CtxMergeReferenceIdeal.τ).loc Cert.CtxMergeReferenceIdeal.main_arg2)
      ∧ r.2.mem ((c.tc : Thread Cert.CtxMergeReferenceIdeal.nD Cert.CtxMergeReferenceIdeal.τ).loc Cert.CtxMergeReferenceIdeal.main_arg3) = m ((c.tc : Thread Cert.CtxMergeReferenceIdeal.nD Cert.CtxMergeReferenceIdeal.τ).loc Cert.CtxMergeReferenceIdeal.main_arg3)
      ∧ r.2.mem ((c.tc : Thread Cert.CtxMergeReferenceIdeal.nD Cert.CtxMergeReferenceIdeal.τ).loc Cert.CtxMergeReferenceIdeal.main_arg4) = m ((c.tc : Thread Cert.CtxMergeReferenceIdeal.nD Cert.CtxMergeReferenceIdeal.τ).loc Cert.CtxMergeReferenceIdeal.main_arg4)
      ∧ r.2.mem ((c.tc : Thread Cert.CtxMergeReferenceIdeal.nD Cert.CtxMergeReferenceIdeal.τ).loc Cert.CtxMergeReferenceIdeal.main_arg5) = m ((c.tc : Thread Cert.CtxMergeReferenceIdeal.nD Cert.CtxMergeReferenceIdeal.τ).loc Cert.CtxMergeReferenceIdeal.main_arg5)
      ∧ r.2.mem ((c.tc : Thread Cert.CtxMergeReferenceIdeal.nD Cert.CtxMergeReferenceIdeal.τ).loc Cert.CtxMergeReferenceIdeal.main_arg6) = m ((c.tc : Thread Cert.CtxMergeReferenceIdeal.nD Cert.CtxMergeReferenceIdeal.τ).loc Cert.CtxMergeReferenceIdeal.main_arg6)
      ∧ r.2.mem ((c.tc : Thread Cert.CtxMergeReferenceIdeal.nD Cert.CtxMergeReferenceIdeal.τ).loc Cert.CtxMergeReferenceIdeal.main_arg7) = m ((c.tc : Thread Cert.CtxMergeReferenceIdeal.nD Cert.CtxMergeReferenceIdeal.τ).loc Cert.CtxMergeReferenceIdeal.main_arg7)
      ∧ r.2.mem ((c.tc : Thread Cert.CtxMergeReferenceIdeal.nD Cert.CtxMergeReferenceIdeal.τ).loc Cert.CtxMergeReferenceIdeal.main_arg8) = m ((c.tc : Thread Cert.CtxMergeReferenceIdeal.nD Cert.CtxMergeReferenceIdeal.τ).loc Cert.CtxMergeReferenceIdeal.main_arg8)
      ∧ r.2.mem ((c.tc : Thread Cert.CtxMergeReferenceIdeal.nD Cert.CtxMergeReferenceIdeal.τ).loc Cert.CtxMergeReferenceIdeal.main_arg9) = m ((c.tc : Thread Cert.CtxMergeReferenceIdeal.nD Cert.CtxMergeReferenceIdeal.τ).loc Cert.CtxMergeReferenceIdeal.main_arg9)
      ∧ r.2.mem ((c.tc : Thread Cert.CtxMergeReferenceIdeal.nD Cert.CtxMergeReferenceIdeal.τ).loc Cert.CtxMergeReferenceIdeal.main_arg10) = m ((c.tc : Thread Cert.CtxMergeReferenceIdeal.nD Cert.CtxMergeReferenceIdeal.τ).loc Cert.CtxMergeReferenceIdeal.main_arg10)
      ∧ r.2.mem ((c.tc : Thread Cert.CtxMergeReferenceIdeal.nD Cert.CtxMergeReferenceIdeal.τ).loc Cert.CtxMergeReferenceIdeal.main_arg11) = m ((c.tc : Thread Cert.CtxMergeReferenceIdeal.nD Cert.CtxMergeReferenceIdeal.τ).loc Cert.CtxMergeReferenceIdeal.main_arg11)
      ∧ r.2.mem ((c.tc : Thread Cert.CtxMergeReferenceIdeal.nD Cert.CtxMergeReferenceIdeal.τ).loc Cert.CtxMergeReferenceIdeal.main_arg12) = m ((c.tc : Thread Cert.CtxMergeReferenceIdeal.nD Cert.CtxMergeReferenceIdeal.τ).loc Cert.CtxMergeReferenceIdeal.main_arg12))
      ∧ r.2.sem = fun _ => 0)

def quiescent_LastProjKernel [hLastProjKernel : Cert.LastProjKernel.Facts] : Prop :=
  ∀ (m : (ℓ : Loc Cert.LastProjKernel.nD Cert.LastProjKernel.τ Cert.LastProjKernel.sig) → Buf (Elt Bits) ℓ) (g : Dev Cert.LastProjKernel.nD → PrngReg), Pre_LastProjKernel m →
    θ_run (Cert.LastProjKernel.defs (F := Bits)) (onTc (τ := Cert.LastProjKernel.τ) (Cert.LastProjKernel.main (F := Bits))) ⟨m, fun _ => 0, g⟩ (fun r => (∀ c : Dev Cert.LastProjKernel.nD,
      r.2.mem ((c.tc : Thread Cert.LastProjKernel.nD Cert.LastProjKernel.τ).loc Cert.LastProjKernel.main_arg0) = m ((c.tc : Thread Cert.LastProjKernel.nD Cert.LastProjKernel.τ).loc Cert.LastProjKernel.main_arg0)
      ∧ r.2.mem ((c.tc : Thread Cert.LastProjKernel.nD Cert.LastProjKernel.τ).loc Cert.LastProjKernel.main_arg1) = m ((c.tc : Thread Cert.LastProjKernel.nD Cert.LastProjKernel.τ).loc Cert.LastProjKernel.main_arg1)
      ∧ r.2.mem ((c.tc : Thread Cert.LastProjKernel.nD Cert.LastProjKernel.τ).loc Cert.LastProjKernel.main_arg2) = m ((c.tc : Thread Cert.LastProjKernel.nD Cert.LastProjKernel.τ).loc Cert.LastProjKernel.main_arg2)
      ∧ r.2.mem ((c.tc : Thread Cert.LastProjKernel.nD Cert.LastProjKernel.τ).loc Cert.LastProjKernel.main_arg3) = m ((c.tc : Thread Cert.LastProjKernel.nD Cert.LastProjKernel.τ).loc Cert.LastProjKernel.main_arg3))
      ∧ r.2.sem = fun _ => 0)

def quiescent_LastProjKernelIdeal [hLastProjKernelIdeal : Cert.LastProjKernelIdeal.Facts] : Prop :=
  ∀ (m : (ℓ : Loc Cert.LastProjKernelIdeal.nD Cert.LastProjKernelIdeal.τ Cert.LastProjKernelIdeal.sig) → Buf (Elt Ideal) ℓ) (g : Dev Cert.LastProjKernelIdeal.nD → PrngReg), Pre_LastProjKernelIdeal m →
    θ_run (Cert.LastProjKernelIdeal.defs (F := Ideal)) (onTc (τ := Cert.LastProjKernelIdeal.τ) (Cert.LastProjKernelIdeal.main (F := Ideal))) ⟨m, fun _ => 0, g⟩ (fun r => (∀ c : Dev Cert.LastProjKernelIdeal.nD,
      r.2.mem ((c.tc : Thread Cert.LastProjKernelIdeal.nD Cert.LastProjKernelIdeal.τ).loc Cert.LastProjKernelIdeal.main_arg0) = m ((c.tc : Thread Cert.LastProjKernelIdeal.nD Cert.LastProjKernelIdeal.τ).loc Cert.LastProjKernelIdeal.main_arg0)
      ∧ r.2.mem ((c.tc : Thread Cert.LastProjKernelIdeal.nD Cert.LastProjKernelIdeal.τ).loc Cert.LastProjKernelIdeal.main_arg1) = m ((c.tc : Thread Cert.LastProjKernelIdeal.nD Cert.LastProjKernelIdeal.τ).loc Cert.LastProjKernelIdeal.main_arg1)
      ∧ r.2.mem ((c.tc : Thread Cert.LastProjKernelIdeal.nD Cert.LastProjKernelIdeal.τ).loc Cert.LastProjKernelIdeal.main_arg2) = m ((c.tc : Thread Cert.LastProjKernelIdeal.nD Cert.LastProjKernelIdeal.τ).loc Cert.LastProjKernelIdeal.main_arg2)
      ∧ r.2.mem ((c.tc : Thread Cert.LastProjKernelIdeal.nD Cert.LastProjKernelIdeal.τ).loc Cert.LastProjKernelIdeal.main_arg3) = m ((c.tc : Thread Cert.LastProjKernelIdeal.nD Cert.LastProjKernelIdeal.τ).loc Cert.LastProjKernelIdeal.main_arg3))
      ∧ r.2.sem = fun _ => 0)

def quiescent_LastProjReferenceIdeal [hLastProjReferenceIdeal : Cert.LastProjReferenceIdeal.Facts] : Prop :=
  ∀ (m : (ℓ : Loc Cert.LastProjReferenceIdeal.nD Cert.LastProjReferenceIdeal.τ Cert.LastProjReferenceIdeal.sig) → Buf (Elt Ideal) ℓ) (g : Dev Cert.LastProjReferenceIdeal.nD → PrngReg), Pre_LastProjReferenceIdeal m →
    θ_run (Cert.LastProjReferenceIdeal.defs (F := Ideal)) (onTc (τ := Cert.LastProjReferenceIdeal.τ) (Cert.LastProjReferenceIdeal.main (F := Ideal))) ⟨m, fun _ => 0, g⟩ (fun r => (∀ c : Dev Cert.LastProjReferenceIdeal.nD,
      r.2.mem ((c.tc : Thread Cert.LastProjReferenceIdeal.nD Cert.LastProjReferenceIdeal.τ).loc Cert.LastProjReferenceIdeal.main_arg0) = m ((c.tc : Thread Cert.LastProjReferenceIdeal.nD Cert.LastProjReferenceIdeal.τ).loc Cert.LastProjReferenceIdeal.main_arg0)
      ∧ r.2.mem ((c.tc : Thread Cert.LastProjReferenceIdeal.nD Cert.LastProjReferenceIdeal.τ).loc Cert.LastProjReferenceIdeal.main_arg1) = m ((c.tc : Thread Cert.LastProjReferenceIdeal.nD Cert.LastProjReferenceIdeal.τ).loc Cert.LastProjReferenceIdeal.main_arg1)
      ∧ r.2.mem ((c.tc : Thread Cert.LastProjReferenceIdeal.nD Cert.LastProjReferenceIdeal.τ).loc Cert.LastProjReferenceIdeal.main_arg2) = m ((c.tc : Thread Cert.LastProjReferenceIdeal.nD Cert.LastProjReferenceIdeal.τ).loc Cert.LastProjReferenceIdeal.main_arg2)
      ∧ r.2.mem ((c.tc : Thread Cert.LastProjReferenceIdeal.nD Cert.LastProjReferenceIdeal.τ).loc Cert.LastProjReferenceIdeal.main_arg3) = m ((c.tc : Thread Cert.LastProjReferenceIdeal.nD Cert.LastProjReferenceIdeal.τ).loc Cert.LastProjReferenceIdeal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v12)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v12) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v32) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)) →
    ∃ (v0 : (c : Dev Cert.MergeKernelIdeal.nD) → Buf (Elt Ideal) ((c.tc : Thread Cert.MergeKernelIdeal.nD Cert.MergeKernelIdeal.τ).loc Cert.MergeKernelIdeal.main_v25)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v25) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v34) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_CtxProjKernel_CtxProjKernelIdeal : Prop :=
  True

def algebraic_CtxProjKernelIdeal_CtxProjReferenceIdeal [hCtxProjKernelIdeal : Cert.CtxProjKernelIdeal.Facts] [hCtxProjReferenceIdeal : Cert.CtxProjReferenceIdeal.Facts] : Prop :=
  ∀ (m : (ℓ : Loc Cert.CtxProjKernelIdeal.nD Cert.CtxProjKernelIdeal.τ Cert.CtxProjKernelIdeal.sig) → Buf (Elt Ideal) ℓ) (g : Dev Cert.CtxProjKernelIdeal.nD → PrngReg)
    (m' : (ℓ : Loc Cert.CtxProjReferenceIdeal.nD Cert.CtxProjReferenceIdeal.τ Cert.CtxProjReferenceIdeal.sig) → Buf (Elt Ideal) ℓ) (g' : Dev Cert.CtxProjReferenceIdeal.nD → PrngReg), Pre_CtxProjKernelIdeal m →
    (∀ c : Dev Cert.CtxProjKernelIdeal.nD,
      m' ((c.tc : Thread Cert.CtxProjReferenceIdeal.nD Cert.CtxProjReferenceIdeal.τ).loc Cert.CtxProjReferenceIdeal.main_arg0) = m ((c.tc : Thread Cert.CtxProjKernelIdeal.nD Cert.CtxProjKernelIdeal.τ).loc Cert.CtxProjKernelIdeal.main_arg0)
      ∧ m' ((c.tc : Thread Cert.CtxProjReferenceIdeal.nD Cert.CtxProjReferenceIdeal.τ).loc Cert.CtxProjReferenceIdeal.main_arg1) = m ((c.tc : Thread Cert.CtxProjKernelIdeal.nD Cert.CtxProjKernelIdeal.τ).loc Cert.CtxProjKernelIdeal.main_arg1)
      ∧ m' ((c.tc : Thread Cert.CtxProjReferenceIdeal.nD Cert.CtxProjReferenceIdeal.τ).loc Cert.CtxProjReferenceIdeal.main_arg2) = m ((c.tc : Thread Cert.CtxProjKernelIdeal.nD Cert.CtxProjKernelIdeal.τ).loc Cert.CtxProjKernelIdeal.main_arg2)
      ∧ m' ((c.tc : Thread Cert.CtxProjReferenceIdeal.nD Cert.CtxProjReferenceIdeal.τ).loc Cert.CtxProjReferenceIdeal.main_arg3) = m ((c.tc : Thread Cert.CtxProjKernelIdeal.nD Cert.CtxProjKernelIdeal.τ).loc Cert.CtxProjKernelIdeal.main_arg3)) →
    ∃ (v0 : (c : Dev Cert.CtxProjKernelIdeal.nD) → Buf (Elt Ideal) ((c.tc : Thread Cert.CtxProjKernelIdeal.nD Cert.CtxProjKernelIdeal.τ).loc Cert.CtxProjKernelIdeal.main_v12)),
      θ_run (Cert.CtxProjKernelIdeal.defs (F := Ideal)) (onTc (τ := Cert.CtxProjKernelIdeal.τ) (Cert.CtxProjKernelIdeal.main (F := Ideal))) ⟨m, fun _ => 0, g⟩ (fun r => ∀ c : Dev Cert.CtxProjKernelIdeal.nD,
          r.2.mem ((c.tc : Thread Cert.CtxProjKernelIdeal.nD Cert.CtxProjKernelIdeal.τ).loc Cert.CtxProjKernelIdeal.main_v12) = v0 c
          ∧ r.2.mem ((c.tc : Thread Cert.CtxProjKernelIdeal.nD Cert.CtxProjKernelIdeal.τ).loc Cert.CtxProjKernelIdeal.main_arg0) = m ((c.tc : Thread Cert.CtxProjKernelIdeal.nD Cert.CtxProjKernelIdeal.τ).loc Cert.CtxProjKernelIdeal.main_arg0)
          ∧ r.2.mem ((c.tc : Thread Cert.CtxProjKernelIdeal.nD Cert.CtxProjKernelIdeal.τ).loc Cert.CtxProjKernelIdeal.main_arg1) = m ((c.tc : Thread Cert.CtxProjKernelIdeal.nD Cert.CtxProjKernelIdeal.τ).loc Cert.CtxProjKernelIdeal.main_arg1)
          ∧ r.2.mem ((c.tc : Thread Cert.CtxProjKernelIdeal.nD Cert.CtxProjKernelIdeal.τ).loc Cert.CtxProjKernelIdeal.main_arg2) = m ((c.tc : Thread Cert.CtxProjKernelIdeal.nD Cert.CtxProjKernelIdeal.τ).loc Cert.CtxProjKernelIdeal.main_arg2)
          ∧ r.2.mem ((c.tc : Thread Cert.CtxProjKernelIdeal.nD Cert.CtxProjKernelIdeal.τ).loc Cert.CtxProjKernelIdeal.main_arg3) = m ((c.tc : Thread Cert.CtxProjKernelIdeal.nD Cert.CtxProjKernelIdeal.τ).loc Cert.CtxProjKernelIdeal.main_arg3))
      ∧ θ_run (Cert.CtxProjReferenceIdeal.defs (F := Ideal)) (onTc (τ := Cert.CtxProjReferenceIdeal.τ) (Cert.CtxProjReferenceIdeal.main (F := Ideal))) ⟨m', fun _ => 0, g'⟩ (fun r => ∀ c : Dev Cert.CtxProjReferenceIdeal.nD,
          r.2.mem ((c.tc : Thread Cert.CtxProjReferenceIdeal.nD Cert.CtxProjReferenceIdeal.τ).loc Cert.CtxProjReferenceIdeal.main_v33) = v0 c
          ∧ r.2.mem ((c.tc : Thread Cert.CtxProjReferenceIdeal.nD Cert.CtxProjReferenceIdeal.τ).loc Cert.CtxProjReferenceIdeal.main_arg0) = m' ((c.tc : Thread Cert.CtxProjReferenceIdeal.nD Cert.CtxProjReferenceIdeal.τ).loc Cert.CtxProjReferenceIdeal.main_arg0)
          ∧ r.2.mem ((c.tc : Thread Cert.CtxProjReferenceIdeal.nD Cert.CtxProjReferenceIdeal.τ).loc Cert.CtxProjReferenceIdeal.main_arg1) = m' ((c.tc : Thread Cert.CtxProjReferenceIdeal.nD Cert.CtxProjReferenceIdeal.τ).loc Cert.CtxProjReferenceIdeal.main_arg1)
          ∧ r.2.mem ((c.tc : Thread Cert.CtxProjReferenceIdeal.nD Cert.CtxProjReferenceIdeal.τ).loc Cert.CtxProjReferenceIdeal.main_arg2) = m' ((c.tc : Thread Cert.CtxProjReferenceIdeal.nD Cert.CtxProjReferenceIdeal.τ).loc Cert.CtxProjReferenceIdeal.main_arg2)
          ∧ r.2.mem ((c.tc : Thread Cert.CtxProjReferenceIdeal.nD Cert.CtxProjReferenceIdeal.τ).loc Cert.CtxProjReferenceIdeal.main_arg3) = m' ((c.tc : Thread Cert.CtxProjReferenceIdeal.nD Cert.CtxProjReferenceIdeal.τ).loc Cert.CtxProjReferenceIdeal.main_arg3))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)) →
    ∃ (v0 : (c : Dev Cert.ModKernelIdeal.nD) → Buf (Elt Ideal) ((c.tc : Thread Cert.ModKernelIdeal.nD Cert.ModKernelIdeal.τ).loc Cert.ModKernelIdeal.main_v4)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v4) = v0 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v23) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_CtxMergeKernel_CtxMergeKernelIdeal : Prop :=
  True

def algebraic_CtxMergeKernelIdeal_CtxMergeReferenceIdeal [hCtxMergeKernelIdeal : Cert.CtxMergeKernelIdeal.Facts] [hCtxMergeReferenceIdeal : Cert.CtxMergeReferenceIdeal.Facts] : Prop :=
  ∀ (m : (ℓ : Loc Cert.CtxMergeKernelIdeal.nD Cert.CtxMergeKernelIdeal.τ Cert.CtxMergeKernelIdeal.sig) → Buf (Elt Ideal) ℓ) (g : Dev Cert.CtxMergeKernelIdeal.nD → PrngReg)
    (m' : (ℓ : Loc Cert.CtxMergeReferenceIdeal.nD Cert.CtxMergeReferenceIdeal.τ Cert.CtxMergeReferenceIdeal.sig) → Buf (Elt Ideal) ℓ) (g' : Dev Cert.CtxMergeReferenceIdeal.nD → PrngReg), Pre_CtxMergeKernelIdeal m →
    (∀ c : Dev Cert.CtxMergeKernelIdeal.nD,
      m' ((c.tc : Thread Cert.CtxMergeReferenceIdeal.nD Cert.CtxMergeReferenceIdeal.τ).loc Cert.CtxMergeReferenceIdeal.main_arg0) = m ((c.tc : Thread Cert.CtxMergeKernelIdeal.nD Cert.CtxMergeKernelIdeal.τ).loc Cert.CtxMergeKernelIdeal.main_arg0)
      ∧ m' ((c.tc : Thread Cert.CtxMergeReferenceIdeal.nD Cert.CtxMergeReferenceIdeal.τ).loc Cert.CtxMergeReferenceIdeal.main_arg1) = m ((c.tc : Thread Cert.CtxMergeKernelIdeal.nD Cert.CtxMergeKernelIdeal.τ).loc Cert.CtxMergeKernelIdeal.main_arg1)
      ∧ m' ((c.tc : Thread Cert.CtxMergeReferenceIdeal.nD Cert.CtxMergeReferenceIdeal.τ).loc Cert.CtxMergeReferenceIdeal.main_arg2) = m ((c.tc : Thread Cert.CtxMergeKernelIdeal.nD Cert.CtxMergeKernelIdeal.τ).loc Cert.CtxMergeKernelIdeal.main_arg2)
      ∧ m' ((c.tc : Thread Cert.CtxMergeReferenceIdeal.nD Cert.CtxMergeReferenceIdeal.τ).loc Cert.CtxMergeReferenceIdeal.main_arg3) = m ((c.tc : Thread Cert.CtxMergeKernelIdeal.nD Cert.CtxMergeKernelIdeal.τ).loc Cert.CtxMergeKernelIdeal.main_arg3)
      ∧ m' ((c.tc : Thread Cert.CtxMergeReferenceIdeal.nD Cert.CtxMergeReferenceIdeal.τ).loc Cert.CtxMergeReferenceIdeal.main_arg4) = m ((c.tc : Thread Cert.CtxMergeKernelIdeal.nD Cert.CtxMergeKernelIdeal.τ).loc Cert.CtxMergeKernelIdeal.main_arg4)
      ∧ m' ((c.tc : Thread Cert.CtxMergeReferenceIdeal.nD Cert.CtxMergeReferenceIdeal.τ).loc Cert.CtxMergeReferenceIdeal.main_arg5) = m ((c.tc : Thread Cert.CtxMergeKernelIdeal.nD Cert.CtxMergeKernelIdeal.τ).loc Cert.CtxMergeKernelIdeal.main_arg5)
      ∧ m' ((c.tc : Thread Cert.CtxMergeReferenceIdeal.nD Cert.CtxMergeReferenceIdeal.τ).loc Cert.CtxMergeReferenceIdeal.main_arg6) = m ((c.tc : Thread Cert.CtxMergeKernelIdeal.nD Cert.CtxMergeKernelIdeal.τ).loc Cert.CtxMergeKernelIdeal.main_arg6)
      ∧ m' ((c.tc : Thread Cert.CtxMergeReferenceIdeal.nD Cert.CtxMergeReferenceIdeal.τ).loc Cert.CtxMergeReferenceIdeal.main_arg7) = m ((c.tc : Thread Cert.CtxMergeKernelIdeal.nD Cert.CtxMergeKernelIdeal.τ).loc Cert.CtxMergeKernelIdeal.main_arg7)
      ∧ m' ((c.tc : Thread Cert.CtxMergeReferenceIdeal.nD Cert.CtxMergeReferenceIdeal.τ).loc Cert.CtxMergeReferenceIdeal.main_arg8) = m ((c.tc : Thread Cert.CtxMergeKernelIdeal.nD Cert.CtxMergeKernelIdeal.τ).loc Cert.CtxMergeKernelIdeal.main_arg8)
      ∧ m' ((c.tc : Thread Cert.CtxMergeReferenceIdeal.nD Cert.CtxMergeReferenceIdeal.τ).loc Cert.CtxMergeReferenceIdeal.main_arg9) = m ((c.tc : Thread Cert.CtxMergeKernelIdeal.nD Cert.CtxMergeKernelIdeal.τ).loc Cert.CtxMergeKernelIdeal.main_arg9)
      ∧ m' ((c.tc : Thread Cert.CtxMergeReferenceIdeal.nD Cert.CtxMergeReferenceIdeal.τ).loc Cert.CtxMergeReferenceIdeal.main_arg10) = m ((c.tc : Thread Cert.CtxMergeKernelIdeal.nD Cert.CtxMergeKernelIdeal.τ).loc Cert.CtxMergeKernelIdeal.main_arg10)
      ∧ m' ((c.tc : Thread Cert.CtxMergeReferenceIdeal.nD Cert.CtxMergeReferenceIdeal.τ).loc Cert.CtxMergeReferenceIdeal.main_arg11) = m ((c.tc : Thread Cert.CtxMergeKernelIdeal.nD Cert.CtxMergeKernelIdeal.τ).loc Cert.CtxMergeKernelIdeal.main_arg11)
      ∧ m' ((c.tc : Thread Cert.CtxMergeReferenceIdeal.nD Cert.CtxMergeReferenceIdeal.τ).loc Cert.CtxMergeReferenceIdeal.main_arg12) = m ((c.tc : Thread Cert.CtxMergeKernelIdeal.nD Cert.CtxMergeKernelIdeal.τ).loc Cert.CtxMergeKernelIdeal.main_arg12)) →
    ∃ (v0 : (c : Dev Cert.CtxMergeKernelIdeal.nD) → Buf (Elt Ideal) ((c.tc : Thread Cert.CtxMergeKernelIdeal.nD Cert.CtxMergeKernelIdeal.τ).loc Cert.CtxMergeKernelIdeal.main_v25)),
      θ_run (Cert.CtxMergeKernelIdeal.defs (F := Ideal)) (onTc (τ := Cert.CtxMergeKernelIdeal.τ) (Cert.CtxMergeKernelIdeal.main (F := Ideal))) ⟨m, fun _ => 0, g⟩ (fun r => ∀ c : Dev Cert.CtxMergeKernelIdeal.nD,
          r.2.mem ((c.tc : Thread Cert.CtxMergeKernelIdeal.nD Cert.CtxMergeKernelIdeal.τ).loc Cert.CtxMergeKernelIdeal.main_v25) = v0 c
          ∧ r.2.mem ((c.tc : Thread Cert.CtxMergeKernelIdeal.nD Cert.CtxMergeKernelIdeal.τ).loc Cert.CtxMergeKernelIdeal.main_arg0) = m ((c.tc : Thread Cert.CtxMergeKernelIdeal.nD Cert.CtxMergeKernelIdeal.τ).loc Cert.CtxMergeKernelIdeal.main_arg0)
          ∧ r.2.mem ((c.tc : Thread Cert.CtxMergeKernelIdeal.nD Cert.CtxMergeKernelIdeal.τ).loc Cert.CtxMergeKernelIdeal.main_arg1) = m ((c.tc : Thread Cert.CtxMergeKernelIdeal.nD Cert.CtxMergeKernelIdeal.τ).loc Cert.CtxMergeKernelIdeal.main_arg1)
          ∧ r.2.mem ((c.tc : Thread Cert.CtxMergeKernelIdeal.nD Cert.CtxMergeKernelIdeal.τ).loc Cert.CtxMergeKernelIdeal.main_arg2) = m ((c.tc : Thread Cert.CtxMergeKernelIdeal.nD Cert.CtxMergeKernelIdeal.τ).loc Cert.CtxMergeKernelIdeal.main_arg2)
          ∧ r.2.mem ((c.tc : Thread Cert.CtxMergeKernelIdeal.nD Cert.CtxMergeKernelIdeal.τ).loc Cert.CtxMergeKernelIdeal.main_arg3) = m ((c.tc : Thread Cert.CtxMergeKernelIdeal.nD Cert.CtxMergeKernelIdeal.τ).loc Cert.CtxMergeKernelIdeal.main_arg3)
          ∧ r.2.mem ((c.tc : Thread Cert.CtxMergeKernelIdeal.nD Cert.CtxMergeKernelIdeal.τ).loc Cert.CtxMergeKernelIdeal.main_arg4) = m ((c.tc : Thread Cert.CtxMergeKernelIdeal.nD Cert.CtxMergeKernelIdeal.τ).loc Cert.CtxMergeKernelIdeal.main_arg4)
          ∧ r.2.mem ((c.tc : Thread Cert.CtxMergeKernelIdeal.nD Cert.CtxMergeKernelIdeal.τ).loc Cert.CtxMergeKernelIdeal.main_arg5) = m ((c.tc : Thread Cert.CtxMergeKernelIdeal.nD Cert.CtxMergeKernelIdeal.τ).loc Cert.CtxMergeKernelIdeal.main_arg5)
          ∧ r.2.mem ((c.tc : Thread Cert.CtxMergeKernelIdeal.nD Cert.CtxMergeKernelIdeal.τ).loc Cert.CtxMergeKernelIdeal.main_arg6) = m ((c.tc : Thread Cert.CtxMergeKernelIdeal.nD Cert.CtxMergeKernelIdeal.τ).loc Cert.CtxMergeKernelIdeal.main_arg6)
          ∧ r.2.mem ((c.tc : Thread Cert.CtxMergeKernelIdeal.nD Cert.CtxMergeKernelIdeal.τ).loc Cert.CtxMergeKernelIdeal.main_arg7) = m ((c.tc : Thread Cert.CtxMergeKernelIdeal.nD Cert.CtxMergeKernelIdeal.τ).loc Cert.CtxMergeKernelIdeal.main_arg7)
          ∧ r.2.mem ((c.tc : Thread Cert.CtxMergeKernelIdeal.nD Cert.CtxMergeKernelIdeal.τ).loc Cert.CtxMergeKernelIdeal.main_arg8) = m ((c.tc : Thread Cert.CtxMergeKernelIdeal.nD Cert.CtxMergeKernelIdeal.τ).loc Cert.CtxMergeKernelIdeal.main_arg8)
          ∧ r.2.mem ((c.tc : Thread Cert.CtxMergeKernelIdeal.nD Cert.CtxMergeKernelIdeal.τ).loc Cert.CtxMergeKernelIdeal.main_arg9) = m ((c.tc : Thread Cert.CtxMergeKernelIdeal.nD Cert.CtxMergeKernelIdeal.τ).loc Cert.CtxMergeKernelIdeal.main_arg9)
          ∧ r.2.mem ((c.tc : Thread Cert.CtxMergeKernelIdeal.nD Cert.CtxMergeKernelIdeal.τ).loc Cert.CtxMergeKernelIdeal.main_arg10) = m ((c.tc : Thread Cert.CtxMergeKernelIdeal.nD Cert.CtxMergeKernelIdeal.τ).loc Cert.CtxMergeKernelIdeal.main_arg10)
          ∧ r.2.mem ((c.tc : Thread Cert.CtxMergeKernelIdeal.nD Cert.CtxMergeKernelIdeal.τ).loc Cert.CtxMergeKernelIdeal.main_arg11) = m ((c.tc : Thread Cert.CtxMergeKernelIdeal.nD Cert.CtxMergeKernelIdeal.τ).loc Cert.CtxMergeKernelIdeal.main_arg11)
          ∧ r.2.mem ((c.tc : Thread Cert.CtxMergeKernelIdeal.nD Cert.CtxMergeKernelIdeal.τ).loc Cert.CtxMergeKernelIdeal.main_arg12) = m ((c.tc : Thread Cert.CtxMergeKernelIdeal.nD Cert.CtxMergeKernelIdeal.τ).loc Cert.CtxMergeKernelIdeal.main_arg12))
      ∧ θ_run (Cert.CtxMergeReferenceIdeal.defs (F := Ideal)) (onTc (τ := Cert.CtxMergeReferenceIdeal.τ) (Cert.CtxMergeReferenceIdeal.main (F := Ideal))) ⟨m', fun _ => 0, g'⟩ (fun r => ∀ c : Dev Cert.CtxMergeReferenceIdeal.nD,
          r.2.mem ((c.tc : Thread Cert.CtxMergeReferenceIdeal.nD Cert.CtxMergeReferenceIdeal.τ).loc Cert.CtxMergeReferenceIdeal.main_v37) = v0 c
          ∧ r.2.mem ((c.tc : Thread Cert.CtxMergeReferenceIdeal.nD Cert.CtxMergeReferenceIdeal.τ).loc Cert.CtxMergeReferenceIdeal.main_arg0) = m' ((c.tc : Thread Cert.CtxMergeReferenceIdeal.nD Cert.CtxMergeReferenceIdeal.τ).loc Cert.CtxMergeReferenceIdeal.main_arg0)
          ∧ r.2.mem ((c.tc : Thread Cert.CtxMergeReferenceIdeal.nD Cert.CtxMergeReferenceIdeal.τ).loc Cert.CtxMergeReferenceIdeal.main_arg1) = m' ((c.tc : Thread Cert.CtxMergeReferenceIdeal.nD Cert.CtxMergeReferenceIdeal.τ).loc Cert.CtxMergeReferenceIdeal.main_arg1)
          ∧ r.2.mem ((c.tc : Thread Cert.CtxMergeReferenceIdeal.nD Cert.CtxMergeReferenceIdeal.τ).loc Cert.CtxMergeReferenceIdeal.main_arg2) = m' ((c.tc : Thread Cert.CtxMergeReferenceIdeal.nD Cert.CtxMergeReferenceIdeal.τ).loc Cert.CtxMergeReferenceIdeal.main_arg2)
          ∧ r.2.mem ((c.tc : Thread Cert.CtxMergeReferenceIdeal.nD Cert.CtxMergeReferenceIdeal.τ).loc Cert.CtxMergeReferenceIdeal.main_arg3) = m' ((c.tc : Thread Cert.CtxMergeReferenceIdeal.nD Cert.CtxMergeReferenceIdeal.τ).loc Cert.CtxMergeReferenceIdeal.main_arg3)
          ∧ r.2.mem ((c.tc : Thread Cert.CtxMergeReferenceIdeal.nD Cert.CtxMergeReferenceIdeal.τ).loc Cert.CtxMergeReferenceIdeal.main_arg4) = m' ((c.tc : Thread Cert.CtxMergeReferenceIdeal.nD Cert.CtxMergeReferenceIdeal.τ).loc Cert.CtxMergeReferenceIdeal.main_arg4)
          ∧ r.2.mem ((c.tc : Thread Cert.CtxMergeReferenceIdeal.nD Cert.CtxMergeReferenceIdeal.τ).loc Cert.CtxMergeReferenceIdeal.main_arg5) = m' ((c.tc : Thread Cert.CtxMergeReferenceIdeal.nD Cert.CtxMergeReferenceIdeal.τ).loc Cert.CtxMergeReferenceIdeal.main_arg5)
          ∧ r.2.mem ((c.tc : Thread Cert.CtxMergeReferenceIdeal.nD Cert.CtxMergeReferenceIdeal.τ).loc Cert.CtxMergeReferenceIdeal.main_arg6) = m' ((c.tc : Thread Cert.CtxMergeReferenceIdeal.nD Cert.CtxMergeReferenceIdeal.τ).loc Cert.CtxMergeReferenceIdeal.main_arg6)
          ∧ r.2.mem ((c.tc : Thread Cert.CtxMergeReferenceIdeal.nD Cert.CtxMergeReferenceIdeal.τ).loc Cert.CtxMergeReferenceIdeal.main_arg7) = m' ((c.tc : Thread Cert.CtxMergeReferenceIdeal.nD Cert.CtxMergeReferenceIdeal.τ).loc Cert.CtxMergeReferenceIdeal.main_arg7)
          ∧ r.2.mem ((c.tc : Thread Cert.CtxMergeReferenceIdeal.nD Cert.CtxMergeReferenceIdeal.τ).loc Cert.CtxMergeReferenceIdeal.main_arg8) = m' ((c.tc : Thread Cert.CtxMergeReferenceIdeal.nD Cert.CtxMergeReferenceIdeal.τ).loc Cert.CtxMergeReferenceIdeal.main_arg8)
          ∧ r.2.mem ((c.tc : Thread Cert.CtxMergeReferenceIdeal.nD Cert.CtxMergeReferenceIdeal.τ).loc Cert.CtxMergeReferenceIdeal.main_arg9) = m' ((c.tc : Thread Cert.CtxMergeReferenceIdeal.nD Cert.CtxMergeReferenceIdeal.τ).loc Cert.CtxMergeReferenceIdeal.main_arg9)
          ∧ r.2.mem ((c.tc : Thread Cert.CtxMergeReferenceIdeal.nD Cert.CtxMergeReferenceIdeal.τ).loc Cert.CtxMergeReferenceIdeal.main_arg10) = m' ((c.tc : Thread Cert.CtxMergeReferenceIdeal.nD Cert.CtxMergeReferenceIdeal.τ).loc Cert.CtxMergeReferenceIdeal.main_arg10)
          ∧ r.2.mem ((c.tc : Thread Cert.CtxMergeReferenceIdeal.nD Cert.CtxMergeReferenceIdeal.τ).loc Cert.CtxMergeReferenceIdeal.main_arg11) = m' ((c.tc : Thread Cert.CtxMergeReferenceIdeal.nD Cert.CtxMergeReferenceIdeal.τ).loc Cert.CtxMergeReferenceIdeal.main_arg11)
          ∧ r.2.mem ((c.tc : Thread Cert.CtxMergeReferenceIdeal.nD Cert.CtxMergeReferenceIdeal.τ).loc Cert.CtxMergeReferenceIdeal.main_arg12) = m' ((c.tc : Thread Cert.CtxMergeReferenceIdeal.nD Cert.CtxMergeReferenceIdeal.τ).loc Cert.CtxMergeReferenceIdeal.main_arg12))

def preserves_LastProjKernel_LastProjKernelIdeal : Prop :=
  True

def algebraic_LastProjKernelIdeal_LastProjReferenceIdeal [hLastProjKernelIdeal : Cert.LastProjKernelIdeal.Facts] [hLastProjReferenceIdeal : Cert.LastProjReferenceIdeal.Facts] : Prop :=
  ∀ (m : (ℓ : Loc Cert.LastProjKernelIdeal.nD Cert.LastProjKernelIdeal.τ Cert.LastProjKernelIdeal.sig) → Buf (Elt Ideal) ℓ) (g : Dev Cert.LastProjKernelIdeal.nD → PrngReg)
    (m' : (ℓ : Loc Cert.LastProjReferenceIdeal.nD Cert.LastProjReferenceIdeal.τ Cert.LastProjReferenceIdeal.sig) → Buf (Elt Ideal) ℓ) (g' : Dev Cert.LastProjReferenceIdeal.nD → PrngReg), Pre_LastProjKernelIdeal m →
    (∀ c : Dev Cert.LastProjKernelIdeal.nD,
      m' ((c.tc : Thread Cert.LastProjReferenceIdeal.nD Cert.LastProjReferenceIdeal.τ).loc Cert.LastProjReferenceIdeal.main_arg0) = m ((c.tc : Thread Cert.LastProjKernelIdeal.nD Cert.LastProjKernelIdeal.τ).loc Cert.LastProjKernelIdeal.main_arg0)
      ∧ m' ((c.tc : Thread Cert.LastProjReferenceIdeal.nD Cert.LastProjReferenceIdeal.τ).loc Cert.LastProjReferenceIdeal.main_arg1) = m ((c.tc : Thread Cert.LastProjKernelIdeal.nD Cert.LastProjKernelIdeal.τ).loc Cert.LastProjKernelIdeal.main_arg1)
      ∧ m' ((c.tc : Thread Cert.LastProjReferenceIdeal.nD Cert.LastProjReferenceIdeal.τ).loc Cert.LastProjReferenceIdeal.main_arg2) = m ((c.tc : Thread Cert.LastProjKernelIdeal.nD Cert.LastProjKernelIdeal.τ).loc Cert.LastProjKernelIdeal.main_arg2)
      ∧ m' ((c.tc : Thread Cert.LastProjReferenceIdeal.nD Cert.LastProjReferenceIdeal.τ).loc Cert.LastProjReferenceIdeal.main_arg3) = m ((c.tc : Thread Cert.LastProjKernelIdeal.nD Cert.LastProjKernelIdeal.τ).loc Cert.LastProjKernelIdeal.main_arg3)) →
    ∃ (v0 : (c : Dev Cert.LastProjKernelIdeal.nD) → Buf (Elt Ideal) ((c.tc : Thread Cert.LastProjKernelIdeal.nD Cert.LastProjKernelIdeal.τ).loc Cert.LastProjKernelIdeal.main_v12)),
      θ_run (Cert.LastProjKernelIdeal.defs (F := Ideal)) (onTc (τ := Cert.LastProjKernelIdeal.τ) (Cert.LastProjKernelIdeal.main (F := Ideal))) ⟨m, fun _ => 0, g⟩ (fun r => ∀ c : Dev Cert.LastProjKernelIdeal.nD,
          r.2.mem ((c.tc : Thread Cert.LastProjKernelIdeal.nD Cert.LastProjKernelIdeal.τ).loc Cert.LastProjKernelIdeal.main_v12) = v0 c
          ∧ r.2.mem ((c.tc : Thread Cert.LastProjKernelIdeal.nD Cert.LastProjKernelIdeal.τ).loc Cert.LastProjKernelIdeal.main_arg0) = m ((c.tc : Thread Cert.LastProjKernelIdeal.nD Cert.LastProjKernelIdeal.τ).loc Cert.LastProjKernelIdeal.main_arg0)
          ∧ r.2.mem ((c.tc : Thread Cert.LastProjKernelIdeal.nD Cert.LastProjKernelIdeal.τ).loc Cert.LastProjKernelIdeal.main_arg1) = m ((c.tc : Thread Cert.LastProjKernelIdeal.nD Cert.LastProjKernelIdeal.τ).loc Cert.LastProjKernelIdeal.main_arg1)
          ∧ r.2.mem ((c.tc : Thread Cert.LastProjKernelIdeal.nD Cert.LastProjKernelIdeal.τ).loc Cert.LastProjKernelIdeal.main_arg2) = m ((c.tc : Thread Cert.LastProjKernelIdeal.nD Cert.LastProjKernelIdeal.τ).loc Cert.LastProjKernelIdeal.main_arg2)
          ∧ r.2.mem ((c.tc : Thread Cert.LastProjKernelIdeal.nD Cert.LastProjKernelIdeal.τ).loc Cert.LastProjKernelIdeal.main_arg3) = m ((c.tc : Thread Cert.LastProjKernelIdeal.nD Cert.LastProjKernelIdeal.τ).loc Cert.LastProjKernelIdeal.main_arg3))
      ∧ θ_run (Cert.LastProjReferenceIdeal.defs (F := Ideal)) (onTc (τ := Cert.LastProjReferenceIdeal.τ) (Cert.LastProjReferenceIdeal.main (F := Ideal))) ⟨m', fun _ => 0, g'⟩ (fun r => ∀ c : Dev Cert.LastProjReferenceIdeal.nD,
          r.2.mem ((c.tc : Thread Cert.LastProjReferenceIdeal.nD Cert.LastProjReferenceIdeal.τ).loc Cert.LastProjReferenceIdeal.main_v31) = v0 c
          ∧ r.2.mem ((c.tc : Thread Cert.LastProjReferenceIdeal.nD Cert.LastProjReferenceIdeal.τ).loc Cert.LastProjReferenceIdeal.main_arg0) = m' ((c.tc : Thread Cert.LastProjReferenceIdeal.nD Cert.LastProjReferenceIdeal.τ).loc Cert.LastProjReferenceIdeal.main_arg0)
          ∧ r.2.mem ((c.tc : Thread Cert.LastProjReferenceIdeal.nD Cert.LastProjReferenceIdeal.τ).loc Cert.LastProjReferenceIdeal.main_arg1) = m' ((c.tc : Thread Cert.LastProjReferenceIdeal.nD Cert.LastProjReferenceIdeal.τ).loc Cert.LastProjReferenceIdeal.main_arg1)
          ∧ r.2.mem ((c.tc : Thread Cert.LastProjReferenceIdeal.nD Cert.LastProjReferenceIdeal.τ).loc Cert.LastProjReferenceIdeal.main_arg2) = m' ((c.tc : Thread Cert.LastProjReferenceIdeal.nD Cert.LastProjReferenceIdeal.τ).loc Cert.LastProjReferenceIdeal.main_arg2)
          ∧ r.2.mem ((c.tc : Thread Cert.LastProjReferenceIdeal.nD Cert.LastProjReferenceIdeal.τ).loc Cert.LastProjReferenceIdeal.main_arg3) = m' ((c.tc : Thread Cert.LastProjReferenceIdeal.nD Cert.LastProjReferenceIdeal.τ).loc Cert.LastProjReferenceIdeal.main_arg3))

def Claim : Prop :=
  ∃ (hKernel : Cert.Kernel.Facts) (hKernelIdeal : Cert.KernelIdeal.Facts) (hReferenceIdeal : Cert.ReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hCtxProjKernel : Cert.CtxProjKernel.Facts) (hCtxProjKernelIdeal : Cert.CtxProjKernelIdeal.Facts) (hCtxProjReferenceIdeal : Cert.CtxProjReferenceIdeal.Facts) (hModKernel : Cert.ModKernel.Facts) (hModKernelIdeal : Cert.ModKernelIdeal.Facts) (hModReferenceIdeal : Cert.ModReferenceIdeal.Facts) (hCtxMergeKernel : Cert.CtxMergeKernel.Facts) (hCtxMergeKernelIdeal : Cert.CtxMergeKernelIdeal.Facts) (hCtxMergeReferenceIdeal : Cert.CtxMergeReferenceIdeal.Facts) (hLastProjKernel : Cert.LastProjKernel.Facts) (hLastProjKernelIdeal : Cert.LastProjKernelIdeal.Facts) (hLastProjReferenceIdeal : Cert.LastProjReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_CtxProjKernel (hCtxProjKernel := hCtxProjKernel)
    ∧ quiescent_CtxProjKernelIdeal (hCtxProjKernelIdeal := hCtxProjKernelIdeal)
    ∧ quiescent_CtxProjReferenceIdeal (hCtxProjReferenceIdeal := hCtxProjReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ quiescent_CtxMergeKernel (hCtxMergeKernel := hCtxMergeKernel)
    ∧ quiescent_CtxMergeKernelIdeal (hCtxMergeKernelIdeal := hCtxMergeKernelIdeal)
    ∧ quiescent_CtxMergeReferenceIdeal (hCtxMergeReferenceIdeal := hCtxMergeReferenceIdeal)
    ∧ quiescent_LastProjKernel (hLastProjKernel := hLastProjKernel)
    ∧ quiescent_LastProjKernelIdeal (hLastProjKernelIdeal := hLastProjKernelIdeal)
    ∧ quiescent_LastProjReferenceIdeal (hLastProjReferenceIdeal := hLastProjReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_CtxProjKernel_CtxProjKernelIdeal
    ∧ algebraic_CtxProjKernelIdeal_CtxProjReferenceIdeal (hCtxProjKernelIdeal := hCtxProjKernelIdeal) (hCtxProjReferenceIdeal := hCtxProjReferenceIdeal)
    ∧ preserves_ModKernel_ModKernelIdeal
    ∧ algebraic_ModKernelIdeal_ModReferenceIdeal (hModKernelIdeal := hModKernelIdeal) (hModReferenceIdeal := hModReferenceIdeal)
    ∧ preserves_CtxMergeKernel_CtxMergeKernelIdeal
    ∧ algebraic_CtxMergeKernelIdeal_CtxMergeReferenceIdeal (hCtxMergeKernelIdeal := hCtxMergeKernelIdeal) (hCtxMergeReferenceIdeal := hCtxMergeReferenceIdeal)
    ∧ preserves_LastProjKernel_LastProjKernelIdeal
    ∧ algebraic_LastProjKernelIdeal_LastProjReferenceIdeal (hLastProjKernelIdeal := hLastProjKernelIdeal) (hLastProjReferenceIdeal := hLastProjReferenceIdeal)
-- ==== Pre_finite_qk.lean ====
abbrev S4x4096x8x96 : Shape := ⟨4, ![4, 4096, 8, 96]⟩
abbrev S4x4352x8x96 : Shape := ⟨4, ![4, 4352, 8, 96]⟩
abbrev S4x4352x8x64 : Shape := ⟨4, ![4, 4352, 8, 64]⟩
abbrev S4x8448x8x96 : Shape := ⟨4, ![4, 8448, 8, 96]⟩
abbrev S_ : Shape := ⟨0, ![]⟩

class Facts : Prop where
  concatenates_S4x4096x8x96_S4x4352x8x96_S4x8448x8x96_d1 : Shape.Concatenates [S4x4096x8x96, S4x4352x8x96] S4x8448x8x96 1
  bcast_S_S4x8448x8x96 : S_.BroadcastsInDim S4x8448x8x96 (![] : Fin 0 → Fin S4x8448x8x96.rank)

variable [Facts]

def fn {F : FTy → Type} [FloatOps F] (main_arg0 : FVec F S4x4096x8x96 .f32) (main_arg1 : FVec F S4x4352x8x96 .f32) (main_arg2 : FVec F S4x4352x8x64 .f32) : IVec S4x8448x8x96 1 :=
  let main_v0 : FVec F S4x8448x8x96 .f32 := (fun a b => concatenate S4x8448x8x96 1 [⟨S4x4096x8x96, a⟩, ⟨S4x4352x8x96, b⟩] concatenates_S4x4096x8x96_S4x4352x8x96_S4x8448x8x96_d1) main_arg0 main_arg1
  let main_v1 : FVec F S4x8448x8x96 .f32 := Host.absf main_v0
  let main_cst : FVec F S_ .f32 := constant S_ .f32 0x7F800000#32
  let main_v2 : FVec F S4x8448x8x96 .f32 := broadcastInDim S4x8448x8x96 ![] bcast_S_S4x8448x8x96 main_cst
  let main_v3 : IVec S4x8448x8x96 1 := cmpf .olt main_v1 main_v2
  main_v3
-- ==== Kernel.lean ====
abbrev S4x4096x8x96 : Shape := ⟨4, ![4, 4096, 8, 96]⟩
abbrev S4x4352x8x96 : Shape := ⟨4, ![4, 4352, 8, 96]⟩
abbrev S4x4352x8x64 : Shape := ⟨4, ![4, 4352, 8, 64]⟩
abbrev S_ : Shape := ⟨0, ![]⟩
abbrev S4x8x96x4096 : Shape := ⟨4, ![4, 8, 96, 4096]⟩
abbrev S4x8x128x4096 : Shape := ⟨4, ![4, 8, 128, 4096]⟩
abbrev S4x8x4352x96 : Shape := ⟨4, ![4, 8, 4352, 96]⟩
abbrev S4x8x4352x128 : Shape := ⟨4, ![4, 8, 4352, 128]⟩
abbrev S4x8x64x4352 : Shape := ⟨4, ![4, 8, 64, 4352]⟩
abbrev S4x512x4352 : Shape := ⟨3, ![4, 512, 4352]⟩
abbrev S16384x512 : Shape := ⟨2, ![16384, 512]⟩
abbrev S1x8x128x256 : Shape := ⟨4, ![1, 8, 128, 256]⟩
abbrev S1x8x4352x128 : Shape := ⟨4, ![1, 8, 4352, 128]⟩
abbrev S1x512x4352 : Shape := ⟨3, ![1, 512, 4352]⟩
abbrev S256x512 : Shape := ⟨2, ![256, 512]⟩
abbrev S2x4352x256 : Shape := ⟨3, ![2, 4352, 256]⟩
abbrev S1x256 : Shape := ⟨2, ![1, 256]⟩
abbrev S64x256 : Shape := ⟨2, ![64, 256]⟩
abbrev S1x1x256x128 : Shape := ⟨4, ![1, 1, 256, 128]⟩
abbrev S256x128 : Shape := ⟨2, ![256, 128]⟩
abbrev S1x1x128x256 : Shape := ⟨4, ![1, 1, 128, 256]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩
abbrev S1x64x256 : Shape := ⟨3, ![1, 64, 256]⟩
abbrev S512x256 : Shape := ⟨2, ![512, 256]⟩

abbrev nBuf : Space → Nat
  | .hbm => 24
  | .vmem => 10
  | .smem => 0
  | _ => 0

abbrev bufTy : (tb : Table) → Fin (tcTables nBuf tb) → BufTy
  | .hbm, ⟨0, _⟩ => ⟨S4x4096x8x96, .f32⟩
  | .hbm, ⟨1, _⟩ => ⟨S4x4352x8x96, .f32⟩
  | .hbm, ⟨2, _⟩ => ⟨S4x4352x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x8x96, .f32⟩
  | .hbm, ⟨9, _⟩ => ⟨S4x4096x8x96, .f32⟩
  | .hbm, ⟨10, _⟩ => ⟨S4x8x96x4096, .f32⟩
  | .hbm, ⟨11, _⟩ => ⟨S_, .i32⟩
  | .hbm, ⟨12, _⟩ => ⟨S_, .f32⟩
  | .hbm, ⟨13, _⟩ => ⟨S4x8x128x4096, .f32⟩
  | .hbm, ⟨14, _⟩ => ⟨S4x8x128x4096, .bf16⟩
  | .hbm, ⟨15, _⟩ => ⟨S4x8x4352x96, .f32⟩
  | .hbm, ⟨16, _⟩ => ⟨S_, .i32⟩
  | .hbm, ⟨17, _⟩ => ⟨S_, .f32⟩
  | .hbm, ⟨18, _⟩ => ⟨S4x8x4352x128, .f32⟩
  | .hbm, ⟨19, _⟩ => ⟨S4x8x4352x128, .bf16⟩
  | .hbm, ⟨20, _⟩ => ⟨S4x8x64x4352, .f32⟩
  | .hbm, ⟨21, _⟩ => ⟨S4x512x4352, .f32⟩
  | .hbm, ⟨22, _⟩ => ⟨S4x512x4352, .bf16⟩
  | .hbm, ⟨23, _⟩ => ⟨S16384x512, .bf16⟩
  | .local _ .vmem, ⟨0, _⟩ => ⟨S1x8x128x256, .bf16⟩
  | .local _ .vmem, ⟨1, _⟩ => ⟨S1x8x128x256, .bf16⟩
  | .local _ .vmem, ⟨2, _⟩ => ⟨S1x8x4352x128, .bf16⟩
  | .local _ .vmem, ⟨3, _⟩ => ⟨S1x8x4352x128, .bf16⟩
  | .local _ .vmem, ⟨4, _⟩ => ⟨S1x512x4352, .bf16⟩
  | .local _ .vmem, ⟨5, _⟩ => ⟨S1x512x4352, .bf16⟩
  | .local _ .vmem, ⟨6, _⟩ => ⟨S256x512, .bf16⟩
  | .local _ .vmem, ⟨7, _⟩ => ⟨S256x512, .bf16⟩
  | .local _ .vmem, ⟨8, _⟩ => ⟨S2x4352x256, .f32⟩
  | .local _ .vmem, ⟨9, _⟩ => ⟨S2x4352x256, .bf16⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x8x96 : Shape := ⟨4, ![4, 4096, 8, 96]⟩
abbrev S4x4352x8x96 : Shape := ⟨4, ![4, 4352, 8, 96]⟩
abbrev S4x4352x8x64 : Shape := ⟨4, ![4, 4352, 8, 64]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S4x4096x8x64 : Shape := ⟨4, ![4, 4096, 8, 64]⟩
abbrev S16384x512 : Shape := ⟨2, ![16384, 512]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4352x8x96, .f32⟩
  | .hbm, ⟨2, _⟩ => ⟨S4x4352x8x64, .f32⟩
  | .hbm, ⟨3, _⟩ => ⟨S4x8x4096x4352, .f32⟩
  | .hbm, ⟨4, _⟩ => ⟨S_, .f32⟩
  | .hbm, ⟨5, _⟩ => ⟨S_, .f32⟩
  | .hbm, ⟨6, _⟩ => ⟨S4x8x4096x4352, .f32⟩
  | .hbm, ⟨7, _⟩ => ⟨S4x8x4096x4352, .f32⟩
  | .hbm, ⟨8, _⟩ => ⟨S_, .f32⟩
  | .hbm, ⟨9, _⟩ => ⟨S4x8x4096, .f32⟩
  | .hbm, ⟨10, _⟩ => ⟨S_, .f32⟩
  | .hbm, ⟨11, _⟩ => ⟨S4x8x4096, .f32⟩
  | .hbm, ⟨12, _⟩ => ⟨S4x8x4096, .f32⟩
  | .hbm, ⟨13, _⟩ => ⟨S4x8x4096x1, .f32⟩
  | .hbm, ⟨14, _⟩ => ⟨S4x8x4096x4352, .f32⟩
  | .hbm, ⟨15, _⟩ => ⟨S4x8x4096x4352, .f32⟩
  | .hbm, ⟨16, _⟩ => ⟨S4x8x4096x4352, .f32⟩
  | .hbm, ⟨17, _⟩ => ⟨S_, .f32⟩
  | .hbm, ⟨18, _⟩ => ⟨S4x8x4096, .f32⟩
  | .hbm, ⟨19, _⟩ => ⟨S4x8x4096x1, .f32⟩
  | .hbm, ⟨20, _⟩ => ⟨S4x8x4096x4352, .f32⟩
  | .hbm, ⟨21, _⟩ => ⟨S4x8x4096x4352, .f32⟩
  | .hbm, ⟨22, _⟩ => ⟨S4x8x64x4096, .f32⟩
  | .hbm, ⟨23, _⟩ => ⟨S4x4096x8x64, .f32⟩
  | .hbm, ⟨24, _⟩ => ⟨S16384x512, .f32⟩
  | .hbm, ⟨25, _⟩ => ⟨S16384x512, .bf16⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== ProjKernel.lean ====
abbrev S4x4096x2048 : Shape := ⟨3, ![4, 4096, 2048]⟩
abbrev S2048 : Shape := ⟨1, ![2048]⟩
abbrev S4x6x2048 : Shape := ⟨3, ![4, 6, 2048]⟩
abbrev S2048x11040 : Shape := ⟨2, ![2048, 11040]⟩
abbrev S_ : Shape := ⟨0, ![]⟩
abbrev S8x6x2048 : Shape := ⟨3, ![8, 6, 2048]⟩
abbrev S2048x224 : Shape := ⟨2, ![2048, 224]⟩
abbrev S2048x800 : Shape := ⟨2, ![2048, 800]⟩
abbrev S2048x2048 : Shape := ⟨2, ![2048, 2048]⟩
abbrev S2048x3072 : Shape := ⟨2, ![2048, 3072]⟩
abbrev S2048x8192 : Shape := ⟨2, ![2048, 8192]⟩
abbrev S16384x2048 : Shape := ⟨2, ![16384, 2048]⟩
abbrev S1x2048 : Shape := ⟨2, ![1, 2048]⟩
abbrev S16384x11264 : Shape := ⟨2, ![16384, 11264]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x6x2048, .f32⟩
  | .hbm, ⟨3, _⟩ => ⟨S2048x11040, .f32⟩
  | .hbm, ⟨4, _⟩ => ⟨S_, .f32⟩
  | .hbm, ⟨5, _⟩ => ⟨S4x6x2048, .f32⟩
  | .hbm, ⟨6, _⟩ => ⟨S8x6x2048, .f32⟩
  | .hbm, ⟨7, _⟩ => ⟨S_, .bf16⟩
  | .hbm, ⟨8, _⟩ => ⟨S2048x224, .bf16⟩
  | .hbm, ⟨9, _⟩ => ⟨S2048x800, .f32⟩
  | .hbm, ⟨10, _⟩ => ⟨S2048x800, .bf16⟩
  | .hbm, ⟨11, _⟩ => ⟨S2048x2048, .f32⟩
  | .hbm, ⟨12, _⟩ => ⟨S2048x2048, .bf16⟩
  | .hbm, ⟨13, _⟩ => ⟨S2048x3072, .bf16⟩
  | .hbm, ⟨14, _⟩ => ⟨S2048x8192, .f32⟩
  | .hbm, ⟨15, _⟩ => ⟨S2048x8192, .bf16⟩
  | .hbm, ⟨16, _⟩ => ⟨S16384x2048, .f32⟩
  | .hbm, ⟨17, _⟩ => ⟨S1x2048, .f32⟩
  | .hbm, ⟨18, _⟩ => ⟨S16384x11264, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c0_i32_1 : BitVec 32 := 0#32
  let v3 : BitVec 32 := Scalar.addi arg1 c0_i32_1
  let c8_i32 : BitVec 32 := 8#32
  let v4 : BitVec 1 := Scalar.cmpi .slt v3 c8_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg1 : BitVec 32 := BitVec.ofNat 32 (i 1).val
  let c0_i32_3 : BitVec 32 := 0#32
  let v7 : BitVec 32 := Scalar.addi arg1 c0_i32_3
  let c8_i32_4 : BitVec 32 := 8#32
  let v8 : BitVec 1 := Scalar.cmpi .sge v7 c8_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let v18 : BitVec 32 := Scalar.minsi v17 c4_i32_5
  let c0_i32_6 : BitVec 32 := 0#32
  let c0_i32_7 : BitVec 32 := 0#32
  let c0_i32_8 : BitVec 32 := 0#32
  ![v18.toNat, c0_i32_6.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c7_i32 : BitVec 32 := 7#32
  let v1 : BitVec 32 := Scalar.minsi v0 c7_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c8_i32 : BitVec 32 := 8#32
  let v1 : BitVec 32 := Scalar.subi v0 c8_i32
  let c0_i32_0 : BitVec 32 := 0#32
  let v2 : BitVec 32 := Scalar.maxsi v1 c0_i32_0
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjReferenceIdeal.lean ====
abbrev S4x4096x2048 : Shape := ⟨3, ![4, 4096, 2048]⟩
abbrev S2048 : Shape := ⟨1, ![2048]⟩
abbrev S4x6x2048 : Shape := ⟨3, ![4, 6, 2048]⟩
abbrev S2048x11040 : Shape := ⟨2, ![2048, 11040]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x2048 : Shape := ⟨2, ![4, 2048]⟩
abbrev S4x4096x11040 : Shape := ⟨3, ![4, 4096, 11040]⟩
abbrev S4x4096x8192 : Shape := ⟨3, ![4, 4096, 8192]⟩
abbrev S4x4096x800 : Shape := ⟨3, ![4, 4096, 800]⟩
abbrev S4x4096x224 : Shape := ⟨3, ![4, 4096, 224]⟩
abbrev S4x4096x11264 : Shape := ⟨3, ![4, 4096, 11264]⟩
abbrev S16384x11264 : Shape := ⟨2, ![16384, 11264]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x6x2048, .f32⟩
  | .hbm, ⟨3, _⟩ => ⟨S2048x11040, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x1x2048, .f32⟩
  | .hbm, ⟨21, _⟩ => ⟨S4x2048, .f32⟩
  | .hbm, ⟨22, _⟩ => ⟨S4x1x2048, .f32⟩
  | .hbm, ⟨23, _⟩ => ⟨S4x2048, .f32⟩
  | .hbm, ⟨24, _⟩ => ⟨S4x1x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x11040, .f32⟩
  | .hbm, ⟨34, _⟩ => ⟨S4x4096x8192, .f32⟩
  | .hbm, ⟨35, _⟩ => ⟨S4x4096x800, .f32⟩
  | .hbm, ⟨36, _⟩ => ⟨S_, .f32⟩
  | .hbm, ⟨37, _⟩ => ⟨S4x4096x224, .f32⟩
  | .hbm, ⟨38, _⟩ => ⟨S4x4096x2048, .f32⟩
  | .hbm, ⟨39, _⟩ => ⟨S4x4096x11264, .f32⟩
  | .hbm, ⟨40, _⟩ => ⟨S16384x11264, .f32⟩
  | .hbm, ⟨41, _⟩ => ⟨S16384x11264, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== MergeKernel.lean ====
abbrev S4x4096x2048 : Shape := ⟨3, ![4, 4096, 2048]⟩
abbrev S4x6x2048 : Shape := ⟨3, ![4, 6, 2048]⟩
abbrev S4x4096x512 : Shape := ⟨3, ![4, 4096, 512]⟩
abbrev S4x4096x11040 : Shape := ⟨3, ![4, 4096, 11040]⟩
abbrev S512x2048 : Shape := ⟨2, ![512, 2048]⟩
abbrev S2048x2048 : Shape := ⟨2, ![2048, 2048]⟩
abbrev S_ : Shape := ⟨0, ![]⟩
abbrev S8x6x2048 : Shape := ⟨3, ![8, 6, 2048]⟩
abbrev S4x4096x224 : Shape := ⟨3, ![4, 4096, 224]⟩
abbrev S4x4096x8192 : Shape := ⟨3, ![4, 4096, 8192]⟩
abbrev S4x4096x800 : Shape := ⟨3, ![4, 4096, 800]⟩
abbrev S4x4096x11264 : Shape := ⟨3, ![4, 4096, 11264]⟩
abbrev S1x512x2048 : Shape := ⟨3, ![1, 512, 2048]⟩
abbrev S4x512x2048 : Shape := ⟨3, ![4, 512, 2048]⟩
abbrev S16384x2048 : Shape := ⟨2, ![16384, 2048]⟩
abbrev S16384x512 : Shape := ⟨2, ![16384, 512]⟩
abbrev S16384x11264 : Shape := ⟨2, ![16384, 11264]⟩
abbrev S256x2048 : Shape := ⟨2, ![256, 2048]⟩
abbrev S1x6x2048 : Shape := ⟨3, ![1, 6, 2048]⟩
abbrev S256x512 : Shape := ⟨2, ![256, 512]⟩
abbrev S256x8192 : Shape := ⟨2, ![256, 8192]⟩
abbrev S1x1x2048 : Shape := ⟨3, ![1, 1, 2048]⟩
abbrev S1x2048 : Shape := ⟨2, ![1, 2048]⟩

abbrev nBuf : Space → Nat
  | .hbm => 40
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S4x6x2048, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x11040, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S2048x2048, .f32⟩
  | .hbm, ⟨12, _⟩ => ⟨S_, .f32⟩
  | .hbm, ⟨13, _⟩ => ⟨S4x6x2048, .f32⟩
  | .hbm, ⟨14, _⟩ => ⟨S8x6x2048, .f32⟩
  | .hbm, ⟨15, _⟩ => ⟨S_, .bf16⟩
  | .hbm, ⟨16, _⟩ => ⟨S4x4096x224, .bf16⟩
  | .hbm, ⟨17, _⟩ => ⟨S4x4096x11040, .bf16⟩
  | .hbm, ⟨18, _⟩ => ⟨S4x4096x8192, .bf16⟩
  | .hbm, ⟨19, _⟩ => ⟨S4x4096x800, .bf16⟩
  | .hbm, ⟨20, _⟩ => ⟨S4x4096x2048, .bf16⟩
  | .hbm, ⟨21, _⟩ => ⟨S4x4096x11264, .bf16⟩
  | .hbm, ⟨22, _⟩ => ⟨S1x512x2048, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S4x512x2048, .f32⟩
  | .hbm, ⟨27, _⟩ => ⟨S4x512x2048, .bf16⟩
  | .hbm, ⟨28, _⟩ => ⟨S16384x2048, .f32⟩
  | .hbm, ⟨29, _⟩ => ⟨S16384x512, .f32⟩
  | .hbm, ⟨30, _⟩ => ⟨S16384x512, .bf16⟩
  | .hbm, ⟨31, _⟩ => ⟨S16384x512, .f32⟩
  | .hbm, ⟨32, _⟩ => ⟨S16384x512, .bf16⟩
  | .hbm, ⟨33, _⟩ => ⟨S16384x512, .f32⟩
  | .hbm, ⟨34, _⟩ => ⟨S16384x512, .bf16⟩
  | .hbm, ⟨35, _⟩ => ⟨S16384x512, .f32⟩
  | .hbm, ⟨36, _⟩ => ⟨S16384x512, .bf16⟩
  | .hbm, ⟨37, _⟩ => ⟨S16384x11264, .bf16⟩
  | .hbm, ⟨38, _⟩ => ⟨S2048x2048, .bf16⟩
  | .hbm, ⟨39, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x6x2048, .f32⟩
  | .local _ .vmem, ⟨3, _⟩ => ⟨S1x6x2048, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x8192, .bf16⟩
  | .local _ .vmem, ⟨13, _⟩ => ⟨S256x8192, .bf16⟩
  | .local _ .vmem, ⟨14, _⟩ => ⟨S4x512x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 32 := Scalar.divsi v0 c16_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32 c0_i32_2
  let v8 : BitVec 32 := Scalar.extui v7
  let c0_i32_3 : BitVec 32 := 0#32
  let v9 : BitVec 1 := Scalar.cmpi .slt c16_i32 c0_i32_3
  let v10 : BitVec 32 := Scalar.extui v9
  let v11 : BitVec 32 := Scalar.subi v8 v10
  let v12 : BitVec 1 := Scalar.cmpi .ne v6 v11
  let v13 : BitVec 32 := Scalar.remsi v0 c16_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S4x4096x2048 : Shape := ⟨3, ![4, 4096, 2048]⟩
abbrev S4x6x2048 : Shape := ⟨3, ![4, 6, 2048]⟩
abbrev S4x4096x512 : Shape := ⟨3, ![4, 4096, 512]⟩
abbrev S4x4096x11040 : Shape := ⟨3, ![4, 4096, 11040]⟩
abbrev S512x2048 : Shape := ⟨2, ![512, 2048]⟩
abbrev S2048x2048 : Shape := ⟨2, ![2048, 2048]⟩
abbrev S4x4096x8192 : Shape := ⟨3, ![4, 4096, 8192]⟩
abbrev S4x4096x4x2048 : Shape := ⟨4, ![4, 4096, 4, 2048]⟩
abbrev S_ : Shape := ⟨0, ![]⟩
abbrev S4x4096x1x2048 : Shape := ⟨4, ![4, 4096, 1, 2048]⟩
abbrev S4x1x2048 : Shape := ⟨3, ![4, 1, 2048]⟩
abbrev S4x2048 : Shape := ⟨2, ![4, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x6x2048, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x11040, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S2048x2048, .f32⟩
  | .hbm, ⟨12, _⟩ => ⟨S4x4096x8192, .f32⟩
  | .hbm, ⟨13, _⟩ => ⟨S4x4096x4x2048, .f32⟩
  | .hbm, ⟨14, _⟩ => ⟨S4x4096x4x2048, .f32⟩
  | .hbm, ⟨15, _⟩ => ⟨S4x4096x4x2048, .f32⟩
  | .hbm, ⟨16, _⟩ => ⟨S_, .f32⟩
  | .hbm, ⟨17, _⟩ => ⟨S4x4096x4x2048, .f32⟩
  | .hbm, ⟨18, _⟩ => ⟨S4x4096x4x2048, .f32⟩
  | .hbm, ⟨19, _⟩ => ⟨S_, .f32⟩
  | .hbm, ⟨20, _⟩ => ⟨S4x4096x4x2048, .f32⟩
  | .hbm, ⟨21, _⟩ => ⟨S4x4096x4x2048, .f32⟩
  | .hbm, ⟨22, _⟩ => ⟨S4x4096x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x1x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x1x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x1x2048, .f32⟩
  | .hbm, ⟨43, _⟩ => ⟨S4x2048, .f32⟩
  | .hbm, ⟨44, _⟩ => ⟨S4x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== CtxProjKernel.lean ====
abbrev S4x256x2048 : Shape := ⟨3, ![4, 256, 2048]⟩
abbrev S2048 : Shape := ⟨1, ![2048]⟩
abbrev S5x6x2048 : Shape := ⟨3, ![5, 6, 2048]⟩
abbrev S2048x11040 : Shape := ⟨2, ![2048, 11040]⟩
abbrev S_ : Shape := ⟨0, ![]⟩
abbrev S3x6x2048 : Shape := ⟨3, ![3, 6, 2048]⟩
abbrev S8x6x2048 : Shape := ⟨3, ![8, 6, 2048]⟩
abbrev S2048x224 : Shape := ⟨2, ![2048, 224]⟩
abbrev S2048x800 : Shape := ⟨2, ![2048, 800]⟩
abbrev S2048x2048 : Shape := ⟨2, ![2048, 2048]⟩
abbrev S2048x3072 : Shape := ⟨2, ![2048, 3072]⟩
abbrev S2048x8192 : Shape := ⟨2, ![2048, 8192]⟩
abbrev S1024x2048 : Shape := ⟨2, ![1024, 2048]⟩
abbrev S1x2048 : Shape := ⟨2, ![1, 2048]⟩
abbrev S1024x11264 : Shape := ⟨2, ![1024, 11264]⟩
abbrev S1x6x2048 : Shape := ⟨3, ![1, 6, 2048]⟩
abbrev S2048x1024 : Shape := ⟨2, ![2048, 1024]⟩
abbrev S1024x1024 : Shape := ⟨2, ![1024, 1024]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 10
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S5x6x2048, .f32⟩
  | .hbm, ⟨3, _⟩ => ⟨S2048x11040, .f32⟩
  | .hbm, ⟨4, _⟩ => ⟨S_, .f32⟩
  | .hbm, ⟨5, _⟩ => ⟨S3x6x2048, .f32⟩
  | .hbm, ⟨6, _⟩ => ⟨S8x6x2048, .f32⟩
  | .hbm, ⟨7, _⟩ => ⟨S_, .bf16⟩
  | .hbm, ⟨8, _⟩ => ⟨S2048x224, .bf16⟩
  | .hbm, ⟨9, _⟩ => ⟨S2048x800, .f32⟩
  | .hbm, ⟨10, _⟩ => ⟨S2048x800, .bf16⟩
  | .hbm, ⟨11, _⟩ => ⟨S2048x2048, .f32⟩
  | .hbm, ⟨12, _⟩ => ⟨S2048x2048, .bf16⟩
  | .hbm, ⟨13, _⟩ => ⟨S2048x3072, .bf16⟩
  | .hbm, ⟨14, _⟩ => ⟨S2048x8192, .f32⟩
  | .hbm, ⟨15, _⟩ => ⟨S2048x8192, .bf16⟩
  | .hbm, ⟨16, _⟩ => ⟨S1024x2048, .f32⟩
  | .hbm, ⟨17, _⟩ => ⟨S1x2048, .f32⟩
  | .hbm, ⟨18, _⟩ => ⟨S1024x11264, .bf16⟩
  | .local _ .vmem, ⟨0, _⟩ => ⟨S1024x2048, .f32⟩
  | .local _ .vmem, ⟨1, _⟩ => ⟨S1x2048, .f32⟩
  | .local _ .vmem, ⟨2, _⟩ => ⟨S1x6x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c0_i32_1 : BitVec 32 := 0#32
  let v3 : BitVec 32 := Scalar.addi arg1 c0_i32_1
  let c8_i32 : BitVec 32 := 8#32
  let v4 : BitVec 1 := Scalar.cmpi .slt v3 c8_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg1 : BitVec 32 := BitVec.ofNat 32 (i 1).val
  let c0_i32_3 : BitVec 32 := 0#32
  let v7 : BitVec 32 := Scalar.addi arg1 c0_i32_3
  let c8_i32_4 : BitVec 32 := 8#32
  let v8 : BitVec 1 := Scalar.cmpi .sge v7 c8_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.minsi v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c7_i32 : BitVec 32 := 7#32
  let v1 : BitVec 32 := Scalar.minsi v0 c7_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c8_i32 : BitVec 32 := 8#32
  let v1 : BitVec 32 := Scalar.subi v0 c8_i32
  let c0_i32_0 : BitVec 32 := 0#32
  let v2 : BitVec 32 := Scalar.maxsi v1 c0_i32_0
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CtxProjReferenceIdeal.lean ====
abbrev S4x256x2048 : Shape := ⟨3, ![4, 256, 2048]⟩
abbrev S2048 : Shape := ⟨1, ![2048]⟩
abbrev S5x6x2048 : Shape := ⟨3, ![5, 6, 2048]⟩
abbrev S2048x11040 : Shape := ⟨2, ![2048, 11040]⟩
abbrev S1x6x2048 : Shape := ⟨3, ![1, 6, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048 : Shape := ⟨2, ![1, 2048]⟩
abbrev S4x256x11040 : Shape := ⟨3, ![4, 256, 11040]⟩
abbrev S4x256x8192 : Shape := ⟨3, ![4, 256, 8192]⟩
abbrev S4x256x800 : Shape := ⟨3, ![4, 256, 800]⟩
abbrev S4x256x224 : Shape := ⟨3, ![4, 256, 224]⟩
abbrev S4x256x11264 : Shape := ⟨3, ![4, 256, 11264]⟩
abbrev S1024x11264 : Shape := ⟨2, ![1024, 11264]⟩

abbrev nBuf : Space → Nat
  | .hbm => 43
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S5x6x2048, .f32⟩
  | .hbm, ⟨3, _⟩ => ⟨S2048x11040, .f32⟩
  | .hbm, ⟨4, _⟩ => ⟨S1x6x2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S1x1x2048, .f32⟩
  | .hbm, ⟨22, _⟩ => ⟨S1x2048, .f32⟩
  | .hbm, ⟨23, _⟩ => ⟨S1x1x2048, .f32⟩
  | .hbm, ⟨24, _⟩ => ⟨S1x2048, .f32⟩
  | .hbm, ⟨25, _⟩ => ⟨S1x1x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S4x256x11040, .f32⟩
  | .hbm, ⟨35, _⟩ => ⟨S4x256x8192, .f32⟩
  | .hbm, ⟨36, _⟩ => ⟨S4x256x800, .f32⟩
  | .hbm, ⟨37, _⟩ => ⟨S_, .f32⟩
  | .hbm, ⟨38, _⟩ => ⟨S4x256x224, .f32⟩
  | .hbm, ⟨39, _⟩ => ⟨S4x256x2048, .f32⟩
  | .hbm, ⟨40, _⟩ => ⟨S4x256x11264, .f32⟩
  | .hbm, ⟨41, _⟩ => ⟨S1024x11264, .f32⟩
  | .hbm, ⟨42, _⟩ => ⟨S1024x11264, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== ModKernel.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x2048 : Shape := ⟨3, ![1, 2048, 2048]⟩
abbrev S1x1x2048 : Shape := ⟨3, ![1, 1, 2048]⟩
abbrev S1x8x2048 : Shape := ⟨3, ![1, 8, 2048]⟩
abbrev S2048x2048 : Shape := ⟨2, ![2048, 2048]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 45
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S1x2048x12288, .f32⟩
  | .hbm, ⟨18, _⟩ => ⟨S2048x12288, .f32⟩
  | .hbm, ⟨19, _⟩ => ⟨S8x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S8x12288, .f32⟩
  | .hbm, ⟨24, _⟩ => ⟨S8x12288, .f32⟩
  | .hbm, ⟨25, _⟩ => ⟨S8x2048, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S1x2048x12288, .f32⟩
  | .hbm, ⟨35, _⟩ => ⟨S2048x12288, .f32⟩
  | .hbm, ⟨36, _⟩ => ⟨S8x12288, .f32⟩
  | .hbm, ⟨37, _⟩ => ⟨S1x12288, .f32⟩
  | .hbm, ⟨38, _⟩ => ⟨S12288, .f32⟩
  | .hbm, ⟨39, _⟩ => ⟨S1x12288, .f32⟩
  | .hbm, ⟨40, _⟩ => ⟨S8x12288, .f32⟩
  | .hbm, ⟨41, _⟩ => ⟨S8x12288, .f32⟩
  | .hbm, ⟨42, _⟩ => ⟨S1x8x12288, .f32⟩
  | .hbm, ⟨43, _⟩ => ⟨S1x8x12288, .f32⟩
  | .hbm, ⟨44, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== CtxMergeKernel.lean ====
abbrev S17408x2048 : Shape := ⟨2, ![17408, 2048]⟩
abbrev S4x256x2048 : Shape := ⟨3, ![4, 256, 2048]⟩
abbrev S5x6x2048 : Shape := ⟨3, ![5, 6, 2048]⟩
abbrev S4x256x512 : Shape := ⟨3, ![4, 256, 512]⟩
abbrev S4x256x11040 : Shape := ⟨3, ![4, 256, 11040]⟩
abbrev S512x2048 : Shape := ⟨2, ![512, 2048]⟩
abbrev S2048x2048 : Shape := ⟨2, ![2048, 2048]⟩
abbrev S_ : Shape := ⟨0, ![]⟩
abbrev S3x6x2048 : Shape := ⟨3, ![3, 6, 2048]⟩
abbrev S8x6x2048 : Shape := ⟨3, ![8, 6, 2048]⟩
abbrev S4x256x224 : Shape := ⟨3, ![4, 256, 224]⟩
abbrev S4x256x8192 : Shape := ⟨3, ![4, 256, 8192]⟩
abbrev S4x256x800 : Shape := ⟨3, ![4, 256, 800]⟩
abbrev S4x256x11264 : Shape := ⟨3, ![4, 256, 11264]⟩
abbrev S1x512x2048 : Shape := ⟨3, ![1, 512, 2048]⟩
abbrev S4x512x2048 : Shape := ⟨3, ![4, 512, 2048]⟩
abbrev S1024x2048 : Shape := ⟨2, ![1024, 2048]⟩
abbrev S1024x512 : Shape := ⟨2, ![1024, 512]⟩
abbrev S1024x11264 : Shape := ⟨2, ![1024, 11264]⟩
abbrev S256x2048 : Shape := ⟨2, ![256, 2048]⟩
abbrev S1x6x2048 : Shape := ⟨3, ![1, 6, 2048]⟩
abbrev S256x512 : Shape := ⟨2, ![256, 512]⟩
abbrev S256x8192 : Shape := ⟨2, ![256, 8192]⟩
abbrev S1x1x2048 : Shape := ⟨3, ![1, 1, 2048]⟩
abbrev S1x2048 : Shape := ⟨2, ![1, 2048]⟩

abbrev nBuf : Space → Nat
  | .hbm => 41
  | .vmem => 18
  | .smem => 0
  | _ => 0

abbrev bufTy : (tb : Table) → Fin (tcTables nBuf tb) → BufTy
  | .hbm, ⟨0, _⟩ => ⟨S17408x2048, .f32⟩
  | .hbm, ⟨1, _⟩ => ⟨S4x256x2048, .f32⟩
  | .hbm, ⟨2, _⟩ => ⟨S5x6x2048, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x11040, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S2048x2048, .f32⟩
  | .hbm, ⟨13, _⟩ => ⟨S_, .f32⟩
  | .hbm, ⟨14, _⟩ => ⟨S3x6x2048, .f32⟩
  | .hbm, ⟨15, _⟩ => ⟨S8x6x2048, .f32⟩
  | .hbm, ⟨16, _⟩ => ⟨S_, .bf16⟩
  | .hbm, ⟨17, _⟩ => ⟨S4x256x224, .bf16⟩
  | .hbm, ⟨18, _⟩ => ⟨S4x256x11040, .bf16⟩
  | .hbm, ⟨19, _⟩ => ⟨S4x256x8192, .bf16⟩
  | .hbm, ⟨20, _⟩ => ⟨S4x256x800, .bf16⟩
  | .hbm, ⟨21, _⟩ => ⟨S4x256x2048, .bf16⟩
  | .hbm, ⟨22, _⟩ => ⟨S4x256x11264, .bf16⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S1x512x2048, .f32⟩
  | .hbm, ⟨27, _⟩ => ⟨S4x512x2048, .f32⟩
  | .hbm, ⟨28, _⟩ => ⟨S4x512x2048, .bf16⟩
  | .hbm, ⟨29, _⟩ => ⟨S1024x2048, .f32⟩
  | .hbm, ⟨30, _⟩ => ⟨S1024x512, .f32⟩
  | .hbm, ⟨31, _⟩ => ⟨S1024x512, .bf16⟩
  | .hbm, ⟨32, _⟩ => ⟨S1024x512, .f32⟩
  | .hbm, ⟨33, _⟩ => ⟨S1024x512, .bf16⟩
  | .hbm, ⟨34, _⟩ => ⟨S1024x512, .f32⟩
  | .hbm, ⟨35, _⟩ => ⟨S1024x512, .bf16⟩
  | .hbm, ⟨36, _⟩ => ⟨S1024x512, .f32⟩
  | .hbm, ⟨37, _⟩ => ⟨S1024x512, .bf16⟩
  | .hbm, ⟨38, _⟩ => ⟨S1024x11264, .bf16⟩
  | .hbm, ⟨39, _⟩ => ⟨S2048x2048, .bf16⟩
  | .hbm, ⟨40, _⟩ => ⟨S17408x2048, .f32⟩
  | .local _ .vmem, ⟨0, _⟩ => ⟨S256x2048, .f32⟩
  | .local _ .vmem, ⟨1, _⟩ => ⟨S256x2048, .f32⟩
  | .local _ .vmem, ⟨2, _⟩ => ⟨S1x6x2048, .f32⟩
  | .local _ .vmem, ⟨3, _⟩ => ⟨S1x6x2048, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x8192, .bf16⟩
  | .local _ .vmem, ⟨13, _⟩ => ⟨S256x8192, .bf16⟩
  | .local _ .vmem, ⟨14, _⟩ => ⟨S4x512x2048, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 32 := Scalar.addi arg0 c64_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CtxMergeReferenceIdeal.lean ====
abbrev S17408x2048 : Shape := ⟨2, ![17408, 2048]⟩
abbrev S4x256x2048 : Shape := ⟨3, ![4, 256, 2048]⟩
abbrev S5x6x2048 : Shape := ⟨3, ![5, 6, 2048]⟩
abbrev S4x256x512 : Shape := ⟨3, ![4, 256, 512]⟩
abbrev S4x256x11040 : Shape := ⟨3, ![4, 256, 11040]⟩
abbrev S512x2048 : Shape := ⟨2, ![512, 2048]⟩
abbrev S2048x2048 : Shape := ⟨2, ![2048, 2048]⟩
abbrev S1x6x2048 : Shape := ⟨3, ![1, 6, 2048]⟩
abbrev S4x256x8192 : Shape := ⟨3, ![4, 256, 8192]⟩
abbrev S4x256x4x2048 : Shape := ⟨4, ![4, 256, 4, 2048]⟩
abbrev S_ : Shape := ⟨0, ![]⟩
abbrev S4x256x1x2048 : Shape := ⟨4, ![4, 256, 1, 2048]⟩
abbrev S1x1x2048 : Shape := ⟨3, ![1, 1, 2048]⟩
abbrev S1x2048 : Shape := ⟨2, ![1, 2048]⟩
abbrev S16384x2048 : Shape := ⟨2, ![16384, 2048]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S4x256x2048, .f32⟩
  | .hbm, ⟨2, _⟩ => ⟨S5x6x2048, .f32⟩
  | .hbm, ⟨3, _⟩ => ⟨S4x256x512, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x11040, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S2048x2048, .f32⟩
  | .hbm, ⟨13, _⟩ => ⟨S1x6x2048, .f32⟩
  | .hbm, ⟨14, _⟩ => ⟨S4x256x8192, .f32⟩
  | .hbm, ⟨15, _⟩ => ⟨S4x256x4x2048, .f32⟩
  | .hbm, ⟨16, _⟩ => ⟨S4x256x4x2048, .f32⟩
  | .hbm, ⟨17, _⟩ => ⟨S4x256x4x2048, .f32⟩
  | .hbm, ⟨18, _⟩ => ⟨S_, .f32⟩
  | .hbm, ⟨19, _⟩ => ⟨S4x256x4x2048, .f32⟩
  | .hbm, ⟨20, _⟩ => ⟨S4x256x4x2048, .f32⟩
  | .hbm, ⟨21, _⟩ => ⟨S_, .f32⟩
  | .hbm, ⟨22, _⟩ => ⟨S4x256x4x2048, .f32⟩
  | .hbm, ⟨23, _⟩ => ⟨S4x256x4x2048, .f32⟩
  | .hbm, ⟨24, _⟩ => ⟨S4x256x1x2048, .f32⟩
  | .hbm, ⟨25, _⟩ => ⟨S4x256x2048, .f32⟩
  | .hbm, ⟨26, _⟩ => ⟨S4x256x2048, .f32⟩
  | .hbm, ⟨27, _⟩ => ⟨S4x256x2048, .f32⟩
  | .hbm, ⟨28, _⟩ => ⟨S4x256x1x2048, .f32⟩
  | .hbm, ⟨29, _⟩ => ⟨S4x256x2048, .f32⟩
  | .hbm, ⟨30, _⟩ => ⟨S4x256x2048, .f32⟩
  | .hbm, ⟨31, _⟩ => ⟨S4x256x2048, .f32⟩
  | .hbm, ⟨32, _⟩ => ⟨S4x256x2048, .f32⟩
  | .hbm, ⟨33, _⟩ => ⟨S4x256x1x2048, .f32⟩
  | .hbm, ⟨34, _⟩ => ⟨S4x256x2048, .f32⟩
  | .hbm, ⟨35, _⟩ => ⟨S4x256x2048, .f32⟩
  | .hbm, ⟨36, _⟩ => ⟨S4x256x2048, .f32⟩
  | .hbm, ⟨37, _⟩ => ⟨S4x256x2048, .f32⟩
  | .hbm, ⟨38, _⟩ => ⟨S4x256x1x2048, .f32⟩
  | .hbm, ⟨39, _⟩ => ⟨S4x256x2048, .f32⟩
  | .hbm, ⟨40, _⟩ => ⟨S4x256x2048, .f32⟩
  | .hbm, ⟨41, _⟩ => ⟨S4x256x2048, .f32⟩
  | .hbm, ⟨42, _⟩ => ⟨S4x256x2048, .f32⟩
  | .hbm, ⟨43, _⟩ => ⟨S1x1x2048, .f32⟩
  | .hbm, ⟨44, _⟩ => ⟨S1x2048, .f32⟩
  | .hbm, ⟨45, _⟩ => ⟨S1x1x2048, .f32⟩
  | .hbm, ⟨46, _⟩ => ⟨S4x256x2048, .f32⟩
  | .hbm, ⟨47, _⟩ => ⟨S4x256x2048, .f32⟩
  | .hbm, ⟨48, _⟩ => ⟨S4x256x2048, .f32⟩
  | .hbm, ⟨49, _⟩ => ⟨S4x256x2048, .f32⟩
  | .hbm, ⟨50, _⟩ => ⟨S16384x2048, .f32⟩
  | .hbm, ⟨51, _⟩ => ⟨S1024x2048, .f32⟩
  | .hbm, ⟨52, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== LastProjKernel.lean ====
abbrev S4x256x2048 : Shape := ⟨3, ![4, 256, 2048]⟩
abbrev S2048 : Shape := ⟨1, ![2048]⟩
abbrev S5x6x2048 : Shape := ⟨3, ![5, 6, 2048]⟩
abbrev S2048x11040 : Shape := ⟨2, ![2048, 11040]⟩
abbrev S_ : Shape := ⟨0, ![]⟩
abbrev S3x6x2048 : Shape := ⟨3, ![3, 6, 2048]⟩
abbrev S8x6x2048 : Shape := ⟨3, ![8, 6, 2048]⟩
abbrev S2048x224 : Shape := ⟨2, ![2048, 224]⟩
abbrev S2048x800 : Shape := ⟨2, ![2048, 800]⟩
abbrev S2048x2048 : Shape := ⟨2, ![2048, 2048]⟩
abbrev S2048x3072 : Shape := ⟨2, ![2048, 3072]⟩
abbrev S2048x8192 : Shape := ⟨2, ![2048, 8192]⟩
abbrev S1024x2048 : Shape := ⟨2, ![1024, 2048]⟩
abbrev S1x2048 : Shape := ⟨2, ![1, 2048]⟩
abbrev S1024x1024 : Shape := ⟨2, ![1024, 1024]⟩
abbrev S1x6x2048 : Shape := ⟨3, ![1, 6, 2048]⟩
abbrev S2048x1024 : Shape := ⟨2, ![2048, 1024]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 7
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S5x6x2048, .f32⟩
  | .hbm, ⟨3, _⟩ => ⟨S2048x11040, .f32⟩
  | .hbm, ⟨4, _⟩ => ⟨S_, .f32⟩
  | .hbm, ⟨5, _⟩ => ⟨S3x6x2048, .f32⟩
  | .hbm, ⟨6, _⟩ => ⟨S8x6x2048, .f32⟩
  | .hbm, ⟨7, _⟩ => ⟨S_, .bf16⟩
  | .hbm, ⟨8, _⟩ => ⟨S2048x224, .bf16⟩
  | .hbm, ⟨9, _⟩ => ⟨S2048x800, .f32⟩
  | .hbm, ⟨10, _⟩ => ⟨S2048x800, .bf16⟩
  | .hbm, ⟨11, _⟩ => ⟨S2048x2048, .f32⟩
  | .hbm, ⟨12, _⟩ => ⟨S2048x2048, .bf16⟩
  | .hbm, ⟨13, _⟩ => ⟨S2048x3072, .bf16⟩
  | .hbm, ⟨14, _⟩ => ⟨S2048x8192, .f32⟩
  | .hbm, ⟨15, _⟩ => ⟨S2048x8192, .bf16⟩
  | .hbm, ⟨16, _⟩ => ⟨S1024x2048, .f32⟩
  | .hbm, ⟨17, _⟩ => ⟨S1x2048, .f32⟩
  | .hbm, ⟨18, _⟩ => ⟨S1024x1024, .bf16⟩
  | .local _ .vmem, ⟨0, _⟩ => ⟨S1024x2048, .f32⟩
  | .local _ .vmem, ⟨1, _⟩ => ⟨S1x2048, .f32⟩
  | .local _ .vmem, ⟨2, _⟩ => ⟨S1x6x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c8_i32 : BitVec 32 := 8#32
  let v3 : BitVec 32 := Scalar.addi arg1 c8_i32
  let c8_i32_1 : BitVec 32 := 8#32
  let v4 : BitVec 1 := Scalar.cmpi .slt v3 c8_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg1 : BitVec 32 := BitVec.ofNat 32 (i 1).val
  let c8_i32_3 : BitVec 32 := 8#32
  let v7 : BitVec 32 := Scalar.addi arg1 c8_i32_3
  let c8_i32_4 : BitVec 32 := 8#32
  let v8 : BitVec 1 := Scalar.cmpi .sge v7 c8_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.minsi v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c7_i32 : BitVec 32 := 7#32
  let v1 : BitVec 32 := Scalar.minsi v0 c7_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c8_i32_0 : BitVec 32 := 8#32
  let v1 : BitVec 32 := Scalar.subi v0 c8_i32_0
  let c0_i32 : BitVec 32 := 0#32
  let v2 : BitVec 32 := Scalar.maxsi v1 c0_i32
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== LastProjReferenceIdeal.lean ====
abbrev S4x256x2048 : Shape := ⟨3, ![4, 256, 2048]⟩
abbrev S2048 : Shape := ⟨1, ![2048]⟩
abbrev S5x6x2048 : Shape := ⟨3, ![5, 6, 2048]⟩
abbrev S2048x11040 : Shape := ⟨2, ![2048, 11040]⟩
abbrev S1x6x2048 : Shape := ⟨3, ![1, 6, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048 : Shape := ⟨2, ![1, 2048]⟩
abbrev S2048x800 : Shape := ⟨2, ![2048, 800]⟩
abbrev S4x256x800 : Shape := ⟨3, ![4, 256, 800]⟩
abbrev S4x256x224 : Shape := ⟨3, ![4, 256, 224]⟩
abbrev S4x256x1024 : Shape := ⟨3, ![4, 256, 1024]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S5x6x2048, .f32⟩
  | .hbm, ⟨3, _⟩ => ⟨S2048x11040, .f32⟩
  | .hbm, ⟨4, _⟩ => ⟨S1x6x2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S1x1x2048, .f32⟩
  | .hbm, ⟨22, _⟩ => ⟨S1x2048, .f32⟩
  | .hbm, ⟨23, _⟩ => ⟨S1x1x2048, .f32⟩
  | .hbm, ⟨24, _⟩ => ⟨S1x2048, .f32⟩
  | .hbm, ⟨25, _⟩ => ⟨S1x1x2048, .f32⟩
  | .hbm, ⟨26, _⟩ => ⟨S_, .f32⟩
  | .hbm, ⟨27, _⟩ => ⟨S1x1x2048, .f32⟩
  | .hbm, ⟨28, _⟩ => ⟨S1x1x2048, .f32⟩
  | .hbm, ⟨29, _⟩ => ⟨S4x256x2048, .f32⟩
  | .hbm, ⟨30, _⟩ => ⟨S4x256x2048, .f32⟩
  | .hbm, ⟨31, _⟩ => ⟨S1x1x2048, .f32⟩
  | .hbm, ⟨32, _⟩ => ⟨S4x256x2048, .f32⟩
  | .hbm, ⟨33, _⟩ => ⟨S4x256x2048, .f32⟩
  | .hbm, ⟨34, _⟩ => ⟨S2048x800, .f32⟩
  | .hbm, ⟨35, _⟩ => ⟨S4x256x800, .f32⟩
  | .hbm, ⟨36, _⟩ => ⟨S_, .f32⟩
  | .hbm, ⟨37, _⟩ => ⟨S4x256x224, .f32⟩
  | .hbm, ⟨38, _⟩ => ⟨S4x256x1024, .f32⟩
  | .hbm, ⟨39, _⟩ => ⟨S1024x1024, .f32⟩
  | .hbm, ⟨40, _⟩ => ⟨S1024x1024, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.AttnModel.lean ====
/- The attention kernel's body, written as the mathematics it runs: for each head the scores of a chunk of keys, the
   running maximum of the scores, the weights of a chunk, and the running sums of the weights and of the weighted values.
   Each is a vector operation over tiles of the three input blocks, in the order the body runs them. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.AttnModel

open Idealize.ShloMosaic Idealize.ShloMosaic.TcCoe Idealize.SL.Sem
open Cert.KernelIdeal Cert.KernelIdeal.Gen

/-- What a point's body is run on: its memory references, each whole, and the three input blocks' contents. -/
structure Args (F : FTy → Type) [FloatOps F] where
  c : Dev nD
  arg3 : Memref sig .tc .vmem S1x8x128x256 .bf16
  harg3 : arg3.IsWhole
  arg4 : Memref sig .tc .vmem S1x8x4352x128 .bf16
  harg4 : arg4.IsWhole
  arg5 : Memref sig .tc .vmem S1x512x4352 .bf16
  harg5 : arg5.IsWhole
  arg7 : Memref sig .tc .vmem S2x4352x256 .f32
  arg8 : Memref sig .tc .vmem S2x4352x256 .bf16
  x0 : Vec F S1x8x128x256 .bf16
  x1 : Vec F S1x8x4352x128 .bf16
  x2 : Vec F S1x512x4352 .bf16

variable {F : FTy → Type} [FloatOps F] (a : Args F)

theorem inbK (h j : ℕ) : ∀ i, (![0, h % 8, 256 * (j % 17), 0] : Fin 4 → ℕ) i + S1x1x256x128.size i ≤ S1x8x4352x128.size i := by
  intro i; fin_cases i <;> simp <;> omega

theorem inbQ (h : ℕ) : ∀ i, (![0, h % 8, 0, 0] : Fin 4 → ℕ) i + S1x1x128x256.size i ≤ S1x8x128x256.size i := by
  intro i; fin_cases i <;> simp <;> omega

theorem inbV (h j : ℕ) : ∀ i, (![0, 64 * (h % 8), 256 * (j % 17)] : Fin 3 → ℕ) i + S1x64x256.size i ≤ S1x512x4352.size i := by
  intro i; fin_cases i <;> simp <;> omega

/-- Chunk `j` of head `h`'s keys. -/
def kt (h j : ℕ) : Vec F S1x1x256x128 .bf16 :=
  View.readAt (Elt F) a.arg4.view (Rect.unit (s := S1x8x4352x128) ![0, h % 8, 256 * (j % 17), 0] S1x1x256x128.size (inbK h j)).toLoadRect (a.harg4.unread a.x1)

/-- Head `h`'s queries. -/
def qt (h : ℕ) : Vec F S1x1x128x256 .bf16 :=
  View.readAt (Elt F) a.arg3.view (Rect.unit (s := S1x8x128x256) ![0, h % 8, 0, 0] S1x1x128x256.size (inbQ h)).toLoadRect (a.harg3.unread a.x0)

/-- Chunk `j` of head `h`'s values. -/
def vt (h j : ℕ) : Vec F S1x64x256 .bf16 :=
  View.readAt (Elt F) a.arg5.view (Rect.unit (s := S1x512x4352) ![0, 64 * (h % 8), 256 * (j % 17)] S1x64x256.size (inbV h j)).toLoadRect (a.harg5.unread a.x2)

/-- The scores of chunk `j` against head `h`'s queries. -/
def sc (h j : ℕ) : FVec F S256x256 .f32 :=
  matmul dot_S256x128_S128x256_S256x256_1_0_0_1_n_n none (shapeCast S256x128 (kt a h j) shapeCasts_S1x1x256x128_S256x128)
    (shapeCast S128x256 (qt a h) shapeCasts_S1x1x128x256_S128x256) (constant S256x256 .f32 0x00000000#32)

/-- The scores as the scratch holds them. -/
def ss (h j : ℕ) : FVec F S1x256x256 .f32 := shapeCast S1x256x256 (sc a h j) shapeCasts_S256x256_S1x256x256

/-- The largest score of a chunk. -/
def mc (h j : ℕ) : FVec F S1x256 .f32 :=
  shapeCast S1x256 (multiReduction .maximumf [0] S256 (sc a h j) 0xFF800000#32 reduces_S256x256_S256 (.inl rfl) rfl) shapeCasts_S256_S1x256

/-- The largest score of the chunks up to the `j`-th. -/
def mx (h : ℕ) : ℕ → FVec F S1x256 .f32
  | 0 => mc a h 0
  | j + 1 => maximumf (mx h j) (mc a h (j + 1))

/-- The weights of a chunk. -/
def pr (h j : ℕ) : FVec F S256x256 .f32 :=
  exp2 (subf (shapeCast S256x256 (ss a h j) shapeCasts_S1x256x256_S256x256) (broadcastTo S256x256 (mx a h 16) broadcasts_S1x256_S256x256))

/-- The weights as the scratch holds them. -/
def ps (h j : ℕ) : FVec F S1x256x256 .bf16 :=
  shapeCast S1x256x256 (truncf .bf16 (pr a h j) bitsLt_bf16_f32) shapeCasts_S256x256_S1x256x256

/-- The sum of a chunk's weights. -/
def lc (h j : ℕ) : FVec F S1x256 .f32 :=
  shapeCast S1x256 (multiReduction .add [0] S256 (pr a h j) 0x00000000#32 reduces_S256x256_S256 (.inl rfl) rfl) shapeCasts_S256_S1x256

/-- The sum of the weights of the first `j` chunks. -/
def ls (h : ℕ) : ℕ → FVec F S1x256 .f32
  | 0 => broadcast S1x256 (Scalar.ofBits .f32 0x00000000#32)
  | j + 1 => addf (ls h j) (lc a h j)

/-- A chunk's weighted values. -/
def oc (h j : ℕ) : FVec F S64x256 .f32 :=
  matmul dot_S64x256_S256x256_S64x256_1_0_0_1_n_n none (shapeCast S64x256 (vt a h j) shapeCasts_S1x64x256_S64x256)
    (shapeCast S256x256 (ps a h j) shapeCasts_S1x256x256_S256x256) (constant S64x256 .f32 0x00000000#32)

/-- The weighted values of the first `j` chunks. -/
def os (h : ℕ) : ℕ → FVec F S64x256 .f32
  | 0 => broadcast S64x256 (Scalar.ofBits .f32 0x00000000#32)
  | j + 1 => addf (os h j) (oc a h j)

end Cert.AttnModel
end
-- ==== Proof.AttnOut.lean ====
/- What the attention kernel stores: the heads' weighted values over the sums of their weights, one head below the
   other, transposed. -/
module

public import proofs.«01_k».proof.Proof.AttnModel

@[expose] public section

set_option maxRecDepth 65536

noncomputable section

namespace Cert.AttnModel

open Idealize.ShloMosaic Idealize.ShloMosaic.TcCoe Idealize.SL.Sem
open Cert.KernelIdeal Cert.KernelIdeal.Gen

variable {F : FTy → Type} [FloatOps F] (a : Args F)

/-- A head's output: its weighted values over the sum of its weights. -/
def hd (h : ℕ) : FVec F S64x256 .f32 := divf (os a h 17) (broadcastTo S64x256 (ls a h 17) broadcasts_S1x256_S64x256)

/-- The tile stored. -/
def tile : FVec F S256x512 .bf16 :=
  truncf .bf16 (transpose S256x512 [1, 0] (concatenate S512x256 0
    [⟨S64x256, hd a 0⟩, ⟨S64x256, hd a 1⟩, ⟨S64x256, hd a 2⟩, ⟨S64x256, hd a 3⟩, ⟨S64x256, hd a 4⟩, ⟨S64x256, hd a 5⟩,
      ⟨S64x256, hd a 6⟩, ⟨S64x256, hd a 7⟩] concatenates_S64x256_S64x256_S64x256_S64x256_S64x256_S64x256_S64x256_S64x256_S512x256_d0)
    transposes_S512x256_p1_0_S256x512) bitsLt_bf16_f32

set_option maxHeartbeats 4000000 in
/-- The body's run leaves it: every read of the two scratch buffers gives the last store at its place. -/
theorem out_eq (i : grid0.Coords) (arg6 : Memref sig .tc .vmem S256x512 .bf16) (harg6 : arg6.IsWhole)
    (harg7 : a.arg7.IsWhole) (harg8 : a.arg8.IsWhole) :
    out0_A_3 a.c i a.arg3 a.harg3 a.arg4 a.harg4 a.arg5 a.harg5 arg6 harg6 a.arg7 harg7 a.arg8 harg8 a.x0 a.x1 a.x2 = tile a := by
  frame_open
  simp (disch := decide) only [↓View.readCov_skip, View.readCov_cons_toLoadRect, View.read_writes_junk_eq_canon, View.canon_cons_unit_lit']
  rfl

end Cert.AttnModel
end
-- ==== Proof.AttnTile.lean ====
/- The attention kernel's tile at an index: for a head and a query, the values weighted by two to the power of the score
   less the largest score, over the sum of those weights. -/
module

public import proofs.«01_k».proof.Proof.AttnOut

@[expose] public section

set_option maxRecDepth 16384

noncomputable section

namespace Cert.AttnModel

open Idealize.ShloMosaic Idealize.ShloMosaic.TcCoe Idealize.SL.Sem
open Cert.KernelIdeal Cert.KernelIdeal.Gen

variable (a : Args Ideal)

theorem kt_at (h j : ℕ) (y : Fin 256) (d : Fin 128) :
    kt a h j (ix4 0 0 y d) = a.x1 (ix4 0 ⟨h % 8, by omega⟩ ⟨256 * (j % 17) + y, by omega⟩ d) := by
  unfold kt
  rw [View.readAt_eq_ld, a.harg4.read_unread]
  refine View.ld_unit_apply_of _ _ _ _ _ _ fun i => ?_
  fin_cases i <;> simp

theorem qt_at (h : ℕ) (d : Fin 128) (x : Fin 256) :
    qt a h (ix4 0 0 d x) = a.x0 (ix4 0 ⟨h % 8, by omega⟩ d x) := by
  unfold qt
  rw [View.readAt_eq_ld, a.harg3.read_unread]
  refine View.ld_unit_apply_of _ _ _ _ _ _ fun i => ?_
  fin_cases i <;> simp

theorem vt_at (h j : ℕ) (y : Fin 64) (z : Fin 256) :
    vt a h j (ix3 0 y z) = a.x2 (ix3 0 ⟨64 * (h % 8) + y, by omega⟩ ⟨256 * (j % 17) + z, by omega⟩) := by
  unfold vt
  rw [View.readAt_eq_ld, a.harg5.read_unread]
  refine View.ld_unit_apply_of _ _ _ _ _ _ fun i => ?_
  fin_cases i <;> simp

/-- The score of key `j` against query `x` of head `h`. -/
def score (h : ℕ) (x : Fin 256) (j : Fin 4352) : EReal :=
  ∑ d : Fin 128, a.x1 (ix4 0 ⟨h % 8, by omega⟩ j d) * a.x0 (ix4 0 ⟨h % 8, by omega⟩ d x)

/-- The weight of key `j`. -/
def weight (h : ℕ) (x : Fin 256) (j : Fin 4352) : EReal :=
  Ideal.exp2 (score a h x j - Finset.univ.sup (score a h x))

theorem sc_at (h j : ℕ) (y x : Fin 256) : sc a h j (ix2 y x) = score a h x ⟨256 * (j % 17) + y, by omega⟩ := by
  pointwise [sc, score]
  simp only [kt_at, qt_at]

theorem ofBits_bot : Ideal.ofBits .f32 0xFF800000#32 = ⊥ := by simp [Ideal.ofBits, Ideal.ieee]

theorem mc_le (h j : ℕ) (x : Fin 256) (B : EReal) :
    mc a h j (ix2 0 x) ≤ B ↔ ∀ y : Fin 256, sc a h j (ix2 y x) ≤ B := by
  have e : mc a h j (ix2 0 x) = Finset.univ.sup fun y : Fin 256 => sc a h j (ix2 y x) := by
    pointwise [mc]
    rw [ofBits_bot]
    rfl
  rw [e, Finset.sup_le_iff]
  simp

theorem mx_le (h : ℕ) (x : Fin 256) (B : EReal) (n : ℕ) :
    mx a h n (ix2 0 x) ≤ B ↔ ∀ j ≤ n, ∀ y : Fin 256, sc a h j (ix2 y x) ≤ B := by
  induction n with
  | zero => simpa [mx] using mc_le a h 0 x B
  | succ n ih =>
    have e : mx a h (n + 1) (ix2 0 x) = max (mx a h n (ix2 0 x)) (mc a h (n + 1) (ix2 0 x)) := by
      pointwise [mx]
    rw [e]
    refine max_le_iff.trans ((and_congr ih (mc_le a h (n + 1) x B)).trans ⟨?_, fun hh => ⟨fun j hj => hh j (by omega), hh _ le_rfl⟩⟩)
    rintro ⟨h1, h2⟩ j hj
    rcases Nat.lt_or_eq_of_le hj with hj | rfl
    · exact h1 j (by omega)
    · exact h2

/-- The running maximum over all the chunks is the maximum over all the keys. -/
theorem mx_at (h : ℕ) (x : Fin 256) : mx a h 16 (ix2 0 x) = Finset.univ.sup (score a h x) := by
  refine eq_of_forall_ge_iff fun B => (mx_le a h x B 16).trans ?_
  rw [Finset.sup_le_iff]
  constructor
  · intro hh j _
    have := hh (j / 256) (by omega) ⟨j % 256, by omega⟩
    rw [sc_at] at this
    convert this using 3
    dsimp only
    omega
  · intro hh j hj y
    rw [sc_at]
    exact hh _ (Finset.mem_univ _)

theorem pr_at (h j : ℕ) (y x : Fin 256) : pr a h j (ix2 y x) = weight a h x ⟨256 * (j % 17) + y, by omega⟩ := by
  pointwise [pr, ss]
  rw [mx_at, sc_at]
  rfl

theorem ls_sum (h : ℕ) (x : Fin 256) (n : ℕ) : ls a h n (ix2 0 x) = ∑ j ∈ Finset.range n, lc a h j (ix2 0 x) := by
  induction n with
  | zero =>
    rw [Finset.sum_range_zero]
    pointwise [ls]
  | succ n ih =>
    rw [Finset.sum_range_succ, ← ih]
    pointwise [ls]

theorem os_sum (h : ℕ) (y : Fin 64) (x : Fin 256) (n : ℕ) :
    os a h n (ix2 y x) = ∑ j ∈ Finset.range n, oc a h j (ix2 y x) := by
  induction n with
  | zero =>
    rw [Finset.sum_range_zero]
    pointwise [os]
  | succ n ih =>
    rw [Finset.sum_range_succ, ← ih]
    pointwise [os]

theorem ls_at (h : ℕ) (x : Fin 256) : ls a h 17 (ix2 0 x) = ∑ j : Fin 4352, weight a h x j := by
  rw [ls_sum, Finset.sum_range]
  refine Eq.trans (Finset.sum_congr rfl fun j _ => ?_) (Fin.sum_mul_add_fin 17 256 (weight a h x))
  have hj : (j : ℕ) % 17 = j := Nat.mod_eq_of_lt j.isLt
  pointwise [lc]
  refine Finset.sum_congr rfl fun y _ => ?_
  rw [pr_at]
  refine congrArg _ (Fin.ext ?_)
  dsimp only
  omega

theorem os_at (h : ℕ) (y : Fin 64) (x : Fin 256) :
    os a h 17 (ix2 y x) = ∑ j : Fin 4352, a.x2 (ix3 0 ⟨64 * (h % 8) + y, by omega⟩ j) * weight a h x j := by
  rw [os_sum, Finset.sum_range]
  refine Eq.trans (Finset.sum_congr rfl fun j _ => ?_) (Fin.sum_mul_add_fin 17 256
    fun j : Fin 4352 => a.x2 (ix3 0 ⟨64 * (h % 8) + y, by omega⟩ j) * weight a h x j)
  have hj : (j : ℕ) % 17 = j := Nat.mod_eq_of_lt j.isLt
  pointwise [oc, ps]
  refine Finset.sum_congr rfl fun z _ => ?_
  rw [pr_at, vt_at]
  have e : (⟨256 * ((j : ℕ) % 17) + z, by omega⟩ : Fin 4352) = ⟨j * 256 + z, by omega⟩ := Fin.ext (by dsimp only; omega)
  rw [e]

/-- A head's output at an index. -/
theorem hd_at (h : ℕ) (y : Fin 64) (x : Fin 256) : hd a h (ix2 y x)
    = Ideal.div (∑ j : Fin 4352, a.x2 (ix3 0 ⟨64 * (h % 8) + y, by omega⟩ j) * weight a h x j) (∑ j : Fin 4352, weight a h x j) := by
  pointwise [hd]
  rw [os_at, ls_at]

theorem hd_congr {h h' : ℕ} {y y' : Fin 64} (x : Fin 256) (e : h = h') (e' : (y : ℕ) = y') :
    hd a h (ix2 y x) = hd a h' (ix2 y' x) := by
  rw [e, Fin.ext e']

/-- The tile at an index: column `y` is coordinate `y % 64` of head `y / 64`. -/
theorem tile_at (x : Fin 256) (y : Fin 512) : tile a (ix2 x y) = hd a (y / 64) (ix2 ⟨y % 64, by omega⟩ x) := by
  pointwise [tile]
  split_ifs <;> exact hd_congr a x (by omega) (by dsimp only; omega)

end Cert.AttnModel
end
-- ==== Proof.AttnMath.lean ====
/- The attention's softmax as mathematics: the reference's term at an index, and the law that carries the kernel's
   weights, two to the power of a score scaled by 1 / log 2, to the reference's exponentials. -/
module

public import proofs.«01_k».proof.Proof.Gen.ReferenceIdeal.Run
public import Idealize.ShloMosaic.Lib.Pointwise
public import Idealize.ShloMosaic.Lib.KernelVsHost

@[expose] public section

set_option maxRecDepth 16384

noncomputable section

namespace Cert.AttnMath

open Idealize.ShloMosaic Idealize.ShloMosaic.TcCoe Idealize.SL.Sem

theorem ofBits_neg_inf : Ideal.ofBits .f32 0xFF800000#32 = ⊥ := by simp [Ideal.ofBits, Ideal.ieee]
theorem ofBits_96 : Ideal.ofBits .f32 0x42C00000#32 = ((96 : ℝ) : EReal) := by
  simp [Ideal.ofBits, Ideal.ieee]
  rw [← EReal.coe_mul]
  norm_num
theorem ofBits_2 : Ideal.ofBits .f32 0x40000000#32 = ((2 : ℝ) : EReal) := by
  simp [Ideal.ofBits, Ideal.ieee]
  rw [← EReal.coe_mul]
  norm_num

theorem sqrt_96 : Ideal.sqrt ((96 : ℝ) : EReal) = ((Real.sqrt 96 : ℝ) : EReal) := by
  rw [Ideal.sqrt_coe, if_neg (by norm_num)]

theorem sqrt_96_pos : 0 < Real.sqrt 96 := Real.sqrt_pos.mpr (by norm_num)

theorem log_2 : Ideal.log ((2 : ℝ) : EReal) = ((Real.log 2 : ℝ) : EReal) := by
  rw [Ideal.log_coe, if_neg (by norm_num)]

theorem log_2_pos : 0 < Real.log 2 := Real.log_pos (by norm_num)

/-! ## Sums of extended reals -/

theorem coe_sum {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A nonnegative real factor goes into a sum, whatever the terms. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hr) (EReal.coe_ne_top r) _ _

/-! ## The softmax -/

theorem sup_eq {n : ℕ} (f : Fin n → EReal) (i : Fin n) (h : ∀ j, f j ≤ f i) : Finset.univ.sup f = f i :=
  le_antisymm (Finset.sup_le fun j _ => h j) (Finset.le_sup (Finset.mem_univ i))

/-- Over finite scores: weighting by two to the power of the score over log 2, less the largest, and dividing the sum by
    the weights' sum is weighting by the softmax. -/
theorem softmax {n : ℕ} [NeZero n] (T : Fin n → ℝ) (v s s' : Fin n → EReal) (hs : ∀ j, s j = (T j : EReal))
    (hs' : ∀ j, s' j = ((T j / Real.log 2 : ℝ) : EReal)) :
    Ideal.div (∑ j, v j * Ideal.exp2 (s' j - Finset.univ.sup s')) (∑ j, Ideal.exp2 (s' j - Finset.univ.sup s'))
      = ∑ j, v j * Ideal.div (Ideal.exp (s j - Finset.univ.sup s)) (∑ i, Ideal.exp (s i - Finset.univ.sup s)) := by
  obtain ⟨i, hi⟩ := Finite.exists_max T
  have hm : Finset.univ.sup s = (T i : EReal) := by
    rw [← hs i]
    exact sup_eq s i fun j => by rw [hs, hs]; exact EReal.coe_le_coe_iff.mpr (hi j)
  have hm' : Finset.univ.sup s' = ((T i / Real.log 2 : ℝ) : EReal) := by
    rw [← hs' i]
    exact sup_eq s' i fun j => by
      rw [hs', hs']; exact EReal.coe_le_coe_iff.mpr (div_le_div_of_nonneg_right (hi j) log_2_pos.le)
  have hp : ∀ j, Ideal.exp (s j - Finset.univ.sup s) = ((Real.exp (T j - T i) : ℝ) : EReal) := fun j => by
    rw [hm, hs, ← EReal.coe_sub, Ideal.exp_coe]
  have hp' : ∀ j, Ideal.exp2 (s' j - Finset.univ.sup s') = ((Real.exp (T j - T i) : ℝ) : EReal) := fun j => by
    rw [hm', hs', ← EReal.coe_sub, Ideal.exp2_coe]
    refine congrArg _ ((Real.rpow_def_of_pos (by norm_num : (0 : ℝ) < 2) _).trans (congrArg _ ?_))
    have := log_2_pos.ne'
    field_simp
  simp only [hp, hp', coe_sum]
  have hL : 0 < ∑ j, Real.exp (T j - T i) := Finset.sum_pos (fun j _ => Real.exp_pos _) Finset.univ_nonempty
  simp only [Ideal.div_coe hL.ne']
  rw [sum_mul_coe _ _ (by positivity)]
  exact Finset.sum_congr rfl fun j _ => mul_assoc _ _ _

/-- A sum whose terms past the first 96 of 128 are zero. -/
theorem sum_pad (f : Fin 128 → EReal) (g : Fin 96 → EReal) (h : ∀ d : Fin 96, f ⟨d, by omega⟩ = g d)
    (h0 : ∀ d : Fin 128, ¬ (d : ℕ) < 96 → f d = 0) : ∑ d, f d = ∑ d, g d := by
  refine (Fin.sum_univ_add (a := 96) (b := 32) f).trans ?_
  refine (congrArg₂ (· + ·) (Finset.sum_congr rfl fun d _ => h d) (Finset.sum_eq_zero fun d _ => h0 _ (by simp))).trans (add_zero _)

/-! ## The reference -/

open Cert.ReferenceIdeal Cert.ReferenceIdeal.Gen

/-- The reference's scores. -/
def refS (q : FVec Ideal S4x4096x8x96 .f32) (k : FVec Ideal S4x4352x8x96 .f32) : FVec Ideal S4x8x4096x4352 .f32 :=
  Host.divf (Host.dotGeneral dot_S4x4096x8x96_S4x4352x8x96_S4x8x4096x4352_3_3_1_1_02_02 none q k)
    (broadcastInDim S4x8x4096x4352 ![] bcast_S_S4x8x4096x4352 (Host.sqrt (constant S_ .f32 0x42C00000#32)))

/-- The largest score of each query. -/
def refM (s : FVec Ideal S4x8x4096x4352 .f32) : FVec Ideal S4x8x4096 .f32 :=
  Host.reduce FloatOps.maximumf s (constant S_ .f32 0xFF800000#32) reducesTo_S4x8x4096x4352_S4x8x4096_d3 h_S_

/-- The reference's weights, not yet over their sum, from the scores and the largest ones. -/
def refP (s : FVec Ideal S4x8x4096x4352 .f32) (x : FVec Ideal S4x8x4096 .f32) : FVec Ideal S4x8x4096x4352 .f32 :=
  Host.exp (subf s (broadcastInDim S4x8x4096x4352 ![0, 1, 2, 3] bcast_S4x8x4096x1_S4x8x4096x4352_0_1_2_3
    (broadcastInDim S4x8x4096x1 ![0, 1, 2] bcast_S4x8x4096_S4x8x4096x1_0_1_2
      (maximumf (broadcastInDim S4x8x4096 ![] bcast_S_S4x8x4096 (constant S_ .f32 0xFF800000#32)) x))))

/-- The reference's output from the weights. -/
def refO (v : FVec Ideal S4x4352x8x64 .f32) (p : FVec Ideal S4x8x4096x4352 .f32) : FVec Ideal S16384x512 .bf16 :=
  truncf .bf16 (shapeCast _ (transpose S4x4096x8x64 [0, 3, 1, 2]
    (Host.dotGeneral dot_S4x4352x8x64_S4x8x4096x4352_S4x8x64x4096_1_3_3_2_02_01 none v
      (Host.divf p (broadcastInDim S4x8x4096x4352 ![0, 1, 2, 3] bcast_S4x8x4096x1_S4x8x4096x4352_0_1_2_3
        (broadcastInDim S4x8x4096x1 ![0, 1, 2] bcast_S4x8x4096_S4x8x4096x1_0_1_2
          (Host.reduceAdd p (constant S_ .f32 0x00000000#32) reducesTo_S4x8x4096x4352_S4x8x4096_d3 h_S_)))))
    transposes_S4x8x64x4096_S4x4096x8x64_0_3_1_2) shapeCasts_S4x4096x8x64_S16384x512) bitsLt_bf16_f32

/-- The array the reference's lines compute. -/
def refOut (q : FVec Ideal S4x4096x8x96 .f32) (k : FVec Ideal S4x4352x8x96 .f32) (v : FVec Ideal S4x4352x8x64 .f32) :
    FVec Ideal S16384x512 .bf16 :=
  refO v (refP (refS q k) (refM (refS q k)))

theorem refS_at (q : FVec Ideal S4x4096x8x96 .f32) (k : FVec Ideal S4x4352x8x96 .f32) (b : Fin 4) (h : Fin 8) (n : Fin 4096) (j : Fin 4352) :
    refS q k (ix4 b h n j) = Ideal.div (∑ d : Fin 96, q (ix4 b n h d) * k (ix4 b j h d)) ((Real.sqrt 96 : ℝ) : EReal) := by
  pointwise [refS]
  rw [ofBits_96, sqrt_96]

theorem reduces_keys : S4x8x4096x4352.Reduces [3] S4x8x4096 := by decide

theorem refM_at (s : FVec Ideal S4x8x4096x4352 .f32) (b : Fin 4) (h : Fin 8) (n : Fin 4096) :
    refM s (ix3 b h n) = Finset.univ.sup fun j : Fin 4352 => s (ix4 b h n j) := by
  unfold refM
  refine (congrFun (hostReduce_maximumf_eq_multiReduction s 0xFF800000#32 reducesTo_S4x8x4096x4352_S4x8x4096_d3 h_S_ reduces_keys
    (.inl rfl) rfl) (ix3 b h n)).trans ?_
  pointwise
  rw [ofBits_neg_inf]
  rfl

theorem refP_at (s : FVec Ideal S4x8x4096x4352 .f32) (x : FVec Ideal S4x8x4096 .f32) (b : Fin 4) (h : Fin 8) (n : Fin 4096) (j : Fin 4352) :
    refP s x (ix4 b h n j) = Ideal.exp (s (ix4 b h n j) - x (ix3 b h n)) := by
  pointwise [refP]
  rw [ofBits_neg_inf, max_bot_left]

theorem refO_at (v : FVec Ideal S4x4352x8x64 .f32) (p : FVec Ideal S4x8x4096x4352 .f32) (r : Fin 16384) (c : Fin 512) :
    refO v p (ix2 r c) = ∑ j : Fin 4352, v (ix4 ⟨r / 4096, by omega⟩ j ⟨c / 64, by omega⟩ ⟨c % 64, by omega⟩)
      * Ideal.div (p (ix4 ⟨r / 4096, by omega⟩ ⟨c / 64, by omega⟩ ⟨r % 4096, by omega⟩ j))
          (∑ i : Fin 4352, p (ix4 ⟨r / 4096, by omega⟩ ⟨c / 64, by omega⟩ ⟨r % 4096, by omega⟩ i)) := by
  pointwise [refO]

end Cert.AttnMath
end
-- ==== Proof.AttnBlock.lean ====
/- The attention kernel: what its blocks are, what its body leaves, and its result array. -/
module

public import proofs.«01_k».proof.Proof.AttnTile
public import proofs.«01_k».proof.Proof.AttnMath
public import proofs.«01_k».proof.Defs
public import Idealize.ShloMosaic.Lib.Claim
public import Idealize.ShloMosaic.Lib.Pipeline.ValueKit

@[expose] public section

set_option maxRecDepth 16384

noncomputable section

namespace Cert.AttnBlock

open Idealize.ShloMosaic Idealize.ShloMosaic.TcCoe Idealize.SL.Sem
open Idealize.ShloMosaic.Pipeline (Dat)
open Cert.KernelIdeal Cert.KernelIdeal.Gen
open Cert.AttnMath Cert.AttnModel

variable (m : (ℓ : Loc nD τ sig) → Buf (Elt Ideal) ℓ) (c : Dev nD)

/-- Which block of each array the point `t` works on. -/
theorem idx : ∀ t : Fin cfg0.N, win0_0.index t = ![t.val / 16, 0, 0, t.val % 16] ∧ win0_1.index t = ![t.val / 16, 0, 0, 0]
    ∧ win0_2.index t = ![t.val / 16, 0, 0] ∧ win0_3.index t = ![t.val, 0] ∧ t.val < 64 :=
  (by decide +kernel : ∀ t : Fin grid0.N, _)

abbrev Q : FVec Ideal S4x4096x8x96 .f32 := m ((c : Thread nD τ).loc main_arg0)
abbrev K : FVec Ideal S4x4352x8x96 .f32 := m ((c : Thread nD τ).loc main_arg1)
abbrev W : FVec Ideal S4x4352x8x64 .f32 := m ((c : Thread nD τ).loc main_arg2)

/-! ## The host lines -/

theorem q_eq : (V m c main_v7 : FVec Ideal S4x8x128x4096 .bf16)
    = truncf .bf16 (pad S4x8x128x4096 ![0, 0, 0, 0] ![0, 0, 32, 0] ![0, 0, 0, 0]
        (transpose S4x8x96x4096 [0, 2, 3, 1] (Host.divf (Q m c) (broadcastInDim S4x4096x8x96 ![] bcast_S_S4x4096x8x96
          (mulf (Host.sqrt (constant S_ .f32 0x42C00000#32)) (Host.log (constant S_ .f32 0x40000000#32)))))
          transposes_S4x4096x8x96_S4x8x96x4096_0_2_3_1)
        (sitofp .f32 (constantI S_ 32 0#32)) pads_S4x8x96x4096_S4x8x128x4096_000_000_0320_000 h_S_) bitsLt_bf16_f32 := by
  unfold V
  simp only [List.flatten_cons, List.flatten_nil, List.append_nil, List.cons_append, List.nil_append, StableHlo.TRef.unary, StableHlo.TRef.binary]
  after_results_simp
  rfl

theorem k_eq : (V m c main_v10 : FVec Ideal S4x8x4352x128 .bf16)
    = truncf .bf16 (pad S4x8x4352x128 ![0, 0, 0, 0] ![0, 0, 0, 32] ![0, 0, 0, 0]
        (transpose S4x8x4352x96 [0, 2, 1, 3] (K m c) transposes_S4x4352x8x96_S4x8x4352x96_0_2_1_3)
        (sitofp .f32 (constantI S_ 32 0#32)) pads_S4x8x4352x96_S4x8x4352x128_000_000_000_0320 h_S_) bitsLt_bf16_f32 := by
  unfold V
  simp only [List.flatten_cons, List.flatten_nil, List.append_nil, List.cons_append, List.nil_append, StableHlo.TRef.unary, StableHlo.TRef.binary]
  after_results_simp
  rfl

/-- The word the host lines pad with is zero. -/
theorem pad_zero : (FloatOps.sitofp FTy.f32 (0#32) : Ideal .f32) = (0 : EReal) := by
  simp [FloatOps.sitofp]

/-- A padded query channel: the query's over √96 · log 2, or zero. -/
theorem q_at (b : Fin 4) (h : Fin 8) (d : Fin 128) (n : Fin 4096) :
    (V m c main_v7 : FVec Ideal S4x8x128x4096 .bf16) (ix4 b h d n)
      = if hd : (d : ℕ) < 96 then Ideal.div (Q m c (ix4 b n h ⟨d, hd⟩)) ((Real.sqrt 96 * Real.log 2 : ℝ) : EReal) else (0 : EReal) := by
  rw [q_eq]
  pointwise
  rw [ofBits_96, ofBits_2, sqrt_96, log_2, ← EReal.coe_mul, pad_zero]

/-- A padded key channel. -/
theorem k_at (b : Fin 4) (h : Fin 8) (j : Fin 4352) (d : Fin 128) :
    (V m c main_v10 : FVec Ideal S4x8x4352x128 .bf16) (ix4 b h j d)
      = if hd : (d : ℕ) < 96 then K m c (ix4 b j h ⟨d, hd⟩) else (0 : EReal) := by
  rw [k_eq]
  pointwise
  rw [pad_zero]

theorem v_at (b : Fin 4) (y : Fin 512) (j : Fin 4352) :
    (V m c main_v13 : FVec Ideal S4x512x4352 .bf16) (ix3 b y j) = W m c (ix4 b j ⟨y / 64, by omega⟩ ⟨y % 64, by omega⟩) := by
  unfold V
  simp only [List.flatten_cons, List.flatten_nil, List.append_nil, List.cons_append, List.nil_append]
  after_results_simp
  pointwise

/-! ## The precondition -/

instance preFacts : Cert.Pre_finite_qk.Facts := ⟨by decide, by decide⟩

theorem ofBits_inf : Ideal.ofBits .f32 0x7F800000#32 = ⊤ := by simp [Ideal.ofBits, Ideal.ieee]

theorem of_bit {p : Prop} [Decidable p] (h : BitVec.ofBool (decide p) = 1#1) : p := by
  by_contra hc
  rw [decide_eq_false hc] at h
  exact absurd h (by decide)

theorem coe_of_abs_lt (x : EReal) (h : @LT.lt EReal _ (FloatOps.absf (F := Ideal) (φ := .f32) x) ⊤) : x = (x.toReal : EReal) := by
  induction x using EReal.rec with
  | bot => simp [FloatOps.absf] at h
  | coe r => rfl
  | top => simp [FloatOps.absf] at h

theorem q_real (hp : Cert.Pre_KernelIdeal_finite_qk m) (b : Fin 4) (n : Fin 4096) (h : Fin 8) (d : Fin 96) :
    Q m c (ix4 b n h d) = ((Q m c (ix4 b n h d)).toReal : EReal) := by
  have e := congrFun (hp c) (ix4 b ⟨n, by omega⟩ h d)
  pointwise [Cert.Pre_finite_qk.fn] at e
  rw [ofBits_inf] at e
  exact coe_of_abs_lt _ (of_bit e)

theorem k_real (hp : Cert.Pre_KernelIdeal_finite_qk m) (b : Fin 4) (j : Fin 4352) (h : Fin 8) (d : Fin 96) :
    K m c (ix4 b j h d) = ((K m c (ix4 b j h d)).toReal : EReal) := by
  have e := congrFun (hp c) (ix4 b ⟨4096 + j, by omega⟩ h d)
  pointwise [Cert.Pre_finite_qk.fn] at e
  rw [ofBits_inf] at e
  exact coe_of_abs_lt _ (of_bit e)

/-! ## The scores -/

/-- The score of key `j` against query `n`, a real. -/
def sco (b : Fin 4) (h : Fin 8) (n : Fin 4096) (j : Fin 4352) : ℝ :=
  (∑ d : Fin 96, (Q m c (ix4 b n h d)).toReal * (K m c (ix4 b j h d)).toReal) / Real.sqrt 96

theorem ref_score (hp : Cert.Pre_KernelIdeal_finite_qk m) (b : Fin 4) (h : Fin 8) (n : Fin 4096) (j : Fin 4352) :
    refS (Q m c) (K m c) (ix4 b h n j) = (sco m c b h n j : EReal) := by
  rw [refS_at, Finset.sum_congr rfl fun d _ => by rw [q_real m c hp, k_real m c hp, ← EReal.coe_mul], coe_sum,
    Ideal.div_coe sqrt_96_pos.ne', ← EReal.coe_mul, sco, mul_one_div]

theorem kernel_score (hp : Cert.Pre_KernelIdeal_finite_qk m) (b : Fin 4) (h : Fin 8) (n : Fin 4096) (j : Fin 4352) :
    ∑ d : Fin 128, @HMul.hMul EReal EReal EReal _ ((V m c main_v10 : FVec Ideal S4x8x4352x128 .bf16) (ix4 b h j d))
        ((V m c main_v7 : FVec Ideal S4x8x128x4096 .bf16) (ix4 b h d n))
      = ((sco m c b h n j / Real.log 2 : ℝ) : EReal) := by
  have hw : Real.sqrt 96 * Real.log 2 ≠ 0 := (mul_pos sqrt_96_pos log_2_pos).ne'
  refine (sum_pad _ (fun d => (((K m c (ix4 b j h d)).toReal * ((Q m c (ix4 b n h d)).toReal * (1 / (Real.sqrt 96 * Real.log 2))) : ℝ) : EReal))
    (fun d => ?_) fun d hd => ?_).trans ?_
  · rw [k_at, q_at, dif_pos d.isLt, dif_pos d.isLt, Ideal.div_coe hw, EReal.coe_mul, EReal.coe_mul, ← k_real m c hp, ← q_real m c hp]
  · rw [k_at, dif_neg hd]
    exact zero_mul _
  · rw [coe_sum, sco, div_div, Finset.sum_div]
    refine congrArg _ (Finset.sum_congr rfl fun d _ => ?_)
    ring

/-! ## The kernel's array -/

/-- What the body of point `t` is run on. -/
def args (t : Fin cfg0.N) : Args Ideal where
  c := c
  arg3 := ms0_0 t
  harg3 := hs0_0 t
  arg4 := ms0_1 t
  harg4 := hs0_1 t
  arg5 := ms0_2 t
  harg5 := hs0_2 t
  arg7 := scM0_0
  arg8 := scM0_1
  x0 := iblk m c 0 t
  x1 := iblk m c 1 t
  x2 := iblk m c 2 t

/-- What a point leaves in the output block: the reference's array at the block's rows. -/
theorem out_at (hp : Cert.Pre_KernelIdeal_finite_qk m) (t : Fin cfg0.N) (ht : t.val < 64) (x : Fin 256) (y : Fin 512) :
    outsAt0 m c t (ix2 x y) = refOut (Q m c) (K m c) (W m c) (ix2 ⟨t.val * 256 + x, by omega⟩ y) := by
  have e0 : ∀ (h : Fin 8) (d : Fin 128), (iblk m c 0 t : FVec Ideal S1x8x128x256 .bf16) (ix4 0 h d x)
      = (V m c main_v7 : FVec Ideal S4x8x128x4096 .bf16) (ix4 ⟨(t.val * 256 + x) / 4096, by omega⟩ h d ⟨(t.val * 256 + x) % 4096, by omega⟩) := fun h d => by
    blk_ext [iblk, idx t]
  have e1 : ∀ (h : Fin 8) (j : Fin 4352) (d : Fin 128), (iblk m c 1 t : FVec Ideal S1x8x4352x128 .bf16) (ix4 0 h j d)
      = (V m c main_v10 : FVec Ideal S4x8x4352x128 .bf16) (ix4 ⟨(t.val * 256 + x) / 4096, by omega⟩ h j d) := fun h j d => by
    blk_ext [iblk, idx t]
  have e2 : ∀ (z : Fin 512) (j : Fin 4352), (iblk m c 2 t : FVec Ideal S1x512x4352 .bf16) (ix3 0 z j)
      = (V m c main_v13 : FVec Ideal S4x512x4352 .bf16) (ix3 ⟨(t.val * 256 + x) / 4096, by omega⟩ z j) := fun z j => by
    blk_ext [iblk, idx t]
  have hh : (y : ℕ) / 64 % 8 = y / 64 := by omega
  have hs : ∀ j : Fin 4352, score (args m c t) (y / 64) x j
      = ((sco m c ⟨(t.val * 256 + x) / 4096, by omega⟩ ⟨y / 64, by omega⟩ ⟨(t.val * 256 + x) % 4096, by omega⟩ j / Real.log 2 : ℝ) : EReal) := fun j => by
    rw [← kernel_score m c hp]
    refine Finset.sum_congr rfl fun d _ => ?_
    simp only [hh]
    exact congrArg₂ _ (e1 _ _ _) (e0 _ _)
  have hv : ∀ j : Fin 4352, (args m c t).x2 (ix3 0 ⟨64 * (y / 64 % 8) + y % 64, by omega⟩ j)
      = W m c (ix4 ⟨(t.val * 256 + x) / 4096, by omega⟩ j ⟨y / 64, by omega⟩ ⟨y % 64, by omega⟩) := fun j => by
    have hy : (⟨64 * (y / 64 % 8) + y % 64, by omega⟩ : Fin 512) = y := Fin.ext (by dsimp only; omega)
    rw [hy]
    exact (e2 y j).trans (v_at m c _ y j)
  unfold outsAt0
  refine (congrFun (out_eq (args m c t) _ _ _ _ _) (ix2 x y)).trans ?_
  rw [tile_at, hd_at, refOut, refO_at]
  simp only [hv, refP_at, refM_at]
  exact softmax _ _ _ _ (fun j => ref_score m c hp _ _ _ j) hs

/-- The array the kernel leaves is the reference's. -/
theorem final (hp : Cert.Pre_KernelIdeal_finite_qk m) :
    (dats m 0 c).arrAt 3 (cfgs 0).N = refOut (Q m c) (K m c) (W m c) := by
  refine (dats m 0 c).arrAt_eq_of_covers 3 _ (by decide +kernel) fun t hf y => ?_
  blk_simp
  rw [after0_3]
  idx_vars y
  have hN : t.val < 64 := lt_of_lt_of_eq t.isLt N_0
  rw [out_at m c hp t hN]
  refine congrArg _ ?_
  blk_ext [idx t]

/-- The attention kernel and its reference leave the same array, from finite queries and keys. -/
theorem algebraic : Cert.algebraic_KernelIdeal_ReferenceIdeal_pre_finite_qk := by
  pair_intro
  · run_from Cert.KernelIdeal.Gen.run_main m g
    all_goals
      simp only [List.flatten_cons, List.flatten_nil, List.append_nil, List.cons_append, List.nil_append, StableHlo.TRef.unary, StableHlo.TRef.binary]
      after_results_simp
  · run_from Cert.ReferenceIdeal.Value.run m' g'
    exact (final m c (by assumption)).symm

end Cert.AttnBlock
end
-- ==== Proof.ProjMath.lean ====
/- The input projection as mathematics: what the reference's term is at an index of its result. -/
module

public import proofs.«01_k».proof.Proof.Gen.ProjReferenceIdeal.Run
public import Idealize.ShloMosaic.Lib.Pointwise

@[expose] public section

set_option maxRecDepth 16384

noncomputable section

namespace Cert.ProjMath

open Idealize.ShloMosaic Idealize.ShloMosaic.TcCoe Idealize.SL.Sem
open Cert.ProjReferenceIdeal

/-- A row `x` normalised by its root mean square, with gain `g`, modulated by `shift` and `scale`: its channel `k`. -/
def hRow (x g shift scale : Fin 2048 → EReal) (k : Fin 2048) : EReal :=
  x k * Ideal.rsqrt (Ideal.div (∑ d : Fin 2048, x d * x d) (Ideal.ofBits .f32 0x45000000#32) + Ideal.ofBits .f32 0x358637BD#32)
    * g k * (1 + scale k) + shift k

/-- The normalised and modulated activation of latent row `(b, l)` at channel `k`. -/
def hAt (x : FVec Ideal S4x4096x2048 .f32) (g : FVec Ideal S2048 .f32) (mod : FVec Ideal S4x6x2048 .f32)
    (b : Fin 4) (l : Fin 4096) (k : Fin 2048) : EReal :=
  hRow (fun k => x (ix3 b l k)) (fun k => g (ix1 k)) (fun k => mod (ix3 b 0 k)) (fun k => mod (ix3 b 1 k)) k

/-- Column `j` of the packed matrix past the gates: the latent-attention columns, 224 columns of zeros, then the other
    branches' columns. -/
def restAt (w : FVec Ideal S2048x11040 .f32) (k : Fin 2048) (j : Fin 3072) : EReal :=
  if h : (j : ℕ) < 800 then w (ix2 k ⟨j, by omega⟩)
  else if h : (j : ℕ) < 1024 then 0 else w (ix2 k ⟨(j : ℕ) - 1024 + 800, by omega⟩)

/-- Column `j` of the packed projection matrix at channel `k`: gates first, then the rest. -/
def wAt (w : FVec Ideal S2048x11040 .f32) (k : Fin 2048) (j : Fin 11264) : EReal :=
  if h : (j : ℕ) < 8192 then w (ix2 k ⟨2848 + j, by omega⟩) else restAt w k ⟨(j : ℕ) - 8192, by omega⟩

/-- A column of the first eight column blocks is a gate's. -/
theorem wAt_gate (w : FVec Ideal S2048x11040 .f32) (k : Fin 2048) (n : ℕ) (hn : n ≤ 7) (j : Fin 1024) :
    wAt w k ⟨n * 1024 + j, by omega⟩ = w (ix2 k ⟨2848 + (n * 1024 + j), by omega⟩) :=
  dif_pos (show n * 1024 + (j : ℕ) < 8192 by omega)

/-- A column of the last three column blocks is one of the rest. -/
theorem wAt_rest (w : FVec Ideal S2048x11040 .f32) (k : Fin 2048) (n : ℕ) (hn : ¬n ≤ 7) (hn' : n < 11) (j : Fin 1024) :
    wAt w k ⟨n * 1024 + j, by omega⟩ = restAt w k ⟨(n - 8) * 1024 + j, by omega⟩ := by
  refine (dif_neg (show ¬n * 1024 + (j : ℕ) < 8192 by omega)).trans (congrArg _ (Fin.ext ?_))
  show n * 1024 + (j : ℕ) - 8192 = (n - 8) * 1024 + j
  omega

/-- The three pieces laid side by side, at an index. -/
theorem rest_pieces (w : FVec Ideal S2048x11040 .f32) (k : Fin 2048) (j : Fin 3072) :
    (if h : (j : ℕ) < 800 then w (ix2 k ⟨j, by omega⟩)
      else if h : (j : ℕ) - 800 < 224 then 0 else w (ix2 k ⟨800 + ((j : ℕ) - 800 - 224), by omega⟩)) = restAt w k j := by
  unfold restAt
  by_cases h1 : (j : ℕ) < 800
  · simp only [dif_pos h1]
  by_cases h2 : (j : ℕ) < 1024
  · simp only [dif_neg h1, dif_pos h2, dif_pos (show (j : ℕ) - 800 < 224 by omega)]
  · have e : 800 + ((j : ℕ) - 800 - 224) = (j : ℕ) - 1024 + 800 := by omega
    simp only [dif_neg h1, dif_neg h2, dif_neg (show ¬(j : ℕ) - 800 < 224 by omega), e]

/-- The products of a row with the matrix's columns, laid out as the packed result has them, are the products with the
    packed columns. -/
theorem packed (w : FVec Ideal S2048x11040 .f32) (h : Fin 2048 → EReal) (j : Fin 11264) :
    (if _ : (j : ℕ) < 8192 then ∑ k, h k * w (ix2 k ⟨2848 + j, by omega⟩)
      else if _ : (j : ℕ) - 8192 < 800 then ∑ k, h k * w (ix2 k ⟨(j : ℕ) - 8192, by omega⟩)
      else if _ : (j : ℕ) - 8192 - 800 < 224 then 0
      else ∑ k, h k * w (ix2 k ⟨800 + ((j : ℕ) - 8192 - 800 - 224), by omega⟩)) = ∑ k, h k * wAt w k j := by
  unfold wAt
  by_cases h1 : (j : ℕ) < 8192
  · simp only [dif_pos h1]
  simp only [dif_neg h1, ← rest_pieces]
  by_cases h2 : (j : ℕ) - 8192 < 800
  · simp only [dif_pos h2]
  by_cases h3 : (j : ℕ) - 8192 - 800 < 224
  · simp only [dif_neg h2, dif_pos h3, mul_zero, Finset.sum_const_zero]
  · simp only [dif_neg h2, dif_neg h3]

theorem ref_at (m : (ℓ : Loc nD τ sig) → Buf (Elt Ideal) ℓ) (c : Dev nD) (r : Fin 16384) (j : Fin 11264) :
    Value.res_out0 (F := Ideal) m c (ix2 r j)
      = ∑ k : Fin 2048, hAt (m ((c.tc : Thread nD τ).loc main_arg0)) (m ((c.tc : Thread nD τ).loc main_arg1))
          (m ((c.tc : Thread nD τ).loc main_arg2)) ⟨r / 4096, by omega⟩ ⟨r % 4096, by omega⟩ k
          * wAt (m ((c.tc : Thread nD τ).loc main_arg3)) k j := by
  refine Eq.trans ?_ (packed _ _ j)
  pointwise [Value.res_out0, Value.res_main_v32, hAt, hRow]

end Cert.ProjMath
end
-- ==== Proof.ProjBlock.lean ====
/- The input projection's kernel: what its blocks are, what its body leaves, and its result array. -/
module

public import proofs.«01_k».proof.Proof.Gen.ProjKernelIdeal.Value
public import proofs.«01_k».proof.Proof.ProjMath
public import proofs.«01_k».proof.Defs
public import Idealize.ShloMosaic.Lib.Claim
public import Idealize.ShloMosaic.Lib.Pipeline.ValueKit

@[expose] public section

set_option maxRecDepth 16384

noncomputable section

namespace Cert.ProjBlock

open Idealize.ShloMosaic Idealize.ShloMosaic.TcCoe Idealize.SL.Sem
open Idealize.ShloMosaic.Pipeline (Dat)
open Cert.ProjKernelIdeal Cert.ProjKernelIdeal.Gen
open Cert.ProjMath

variable (m : (ℓ : Loc nD τ sig) → Buf (Elt Ideal) ℓ) (c : Dev nD)

/-- Which block of each array the point `t` works on. -/
theorem idx : ∀ t : Fin cfg0.N, win0_0.index t = ![t.val / 11, 0] ∧ win0_1.index t = ![0, 0]
    ∧ win0_2.index t = ![t.val / 44, 0, 0] ∧ win0_3.index t = ![0, min (t.val % 11) 7]
    ∧ win0_4.index t = ![0, t.val % 11 - 8] ∧ win0_5.index t = ![t.val / 11, t.val % 11] ∧ t.val < 176 :=
  (by decide +kernel : ∀ t : Fin grid0.N, _)

abbrev X : FVec Ideal S4x4096x2048 .f32 := m ((c : Thread nD τ).loc main_arg0)
abbrev G : FVec Ideal S2048 .f32 := m ((c : Thread nD τ).loc main_arg1)
abbrev M : FVec Ideal S4x6x2048 .f32 := m ((c : Thread nD τ).loc main_arg2)
abbrev W : FVec Ideal S2048x11040 .f32 := m ((c : Thread nD τ).loc main_arg3)

/-- The activations of the 1024 rows of row tile `i`. -/
def hBlk (i : ℕ) (hi : i < 16) (y : Fin 1024) (k : Fin 2048) : EReal :=
  hAt (X m c) (G m c) (M m c) ⟨i / 4, by omega⟩ ⟨i % 4 * 1024 + y, by omega⟩ k

/-- The rows of the activations, as the host line leaves them. -/
theorem x_at (r : Fin 16384) (k : Fin 2048) :
    (V m c main_v10 : FVec Ideal S16384x2048 .f32) (ix2 r k)
      = X m c (ix3 ⟨r / 4096, by omega⟩ ⟨r % 4096, by omega⟩ k) := by
  entry_read
  pointwise

theorem g_at (k : Fin 2048) : (V m c main_v11 : FVec Ideal S1x2048 .f32) (ix2 0 k) = G m c (ix1 k) := by
  entry_read
  pointwise

/-- The rows of the modulation that belong to a latent sequence. -/
theorem mod_at (b : Fin 8) (hb : (b : ℕ) < 4) (a : Fin 6) (k : Fin 2048) :
    (V m c main_v1 : FVec Ideal S8x6x2048 .f32) (ix3 b a k) = M m c (ix3 ⟨b, hb⟩ a k) := by
  entry_read
  pointwise
  rw [dif_pos hb]

/-- The gate columns of the packed matrix, as the host line leaves them. -/
theorem wg_at (k : Fin 2048) (j : Fin 8192) :
    (V m c main_v9 : FVec Ideal S2048x8192 .bf16) (ix2 k j) = W m c (ix2 k ⟨2848 + j, by omega⟩) := by
  entry_read
  pointwise

/-- The packed matrix's other columns: the latent-attention columns, 224 of zeros, the other branches' columns. -/
theorem wr_eq : (V m c main_v7 : FVec Ideal S2048x3072 .bf16)
    = concatenate S2048x3072 1
        [⟨S2048x800, truncf .bf16 (extractStridedSlice S2048x800 ![0, 0] (W m c) slices_S2048x11040_S2048x800_0_0) bitsLt_bf16_f32⟩,
         ⟨S2048x224, broadcastInDim S2048x224 ![] bcast_S_S2048x224 (constant S_ .bf16 0x0000#16)⟩,
         ⟨S2048x2048, truncf .bf16 (extractStridedSlice S2048x2048 ![0, 800] (W m c) slices_S2048x11040_S2048x2048_0_800) bitsLt_bf16_f32⟩]
        concatenates_S2048x800_S2048x224_S2048x2048_S2048x3072_d1 := by
  unfold V
  after_results_simp <;> (try dsimp only [Matrix.cons_val]) <;> (try after_results_simp) <;> rfl

theorem wr_at (k : Fin 2048) (j : Fin 3072) :
    (V m c main_v7 : FVec Ideal S2048x3072 .bf16) (ix2 k j) = restAt (W m c) k j := by
  rw [wr_eq]
  refine Eq.trans ?_ (rest_pieces _ k j)
  pointwise

/-- A row tile's first point leaves its activations in the scratch. -/
theorem scratch_first (t : Fin cfg0.N) (hz : t.val % 11 = 0) (hi : t.val / 11 < 16) (y : Fin 1024) (k : Fin 2048) :
    (outsAt0 m c t.val t.isLt).2 (ix2 y k) = hBlk m c (t.val / 11) hi y k := by
  have hN : t.val < 176 := lt_of_lt_of_eq t.isLt N_0
  have e0 : ∀ (r : Fin 1024) (k : Fin 2048), (iblk m c 0 t : FVec Ideal S1024x2048 .f32) (ix2 r k)
      = X m c (ix3 ⟨t.val / 44, by omega⟩ ⟨t.val / 11 % 4 * 1024 + r, by omega⟩ k) := fun r k => by
    refine Eq.trans ?_ ((x_at m c ⟨t.val / 11 * 1024 + r, by omega⟩ k).trans ?_)
    · blk_ext [iblk, idx t]
    · blk_ext
  have e1 : ∀ k : Fin 2048, (iblk m c 1 t : FVec Ideal S1x2048 .f32) (ix2 0 k) = G m c (ix1 k) := fun k => by
    refine Eq.trans ?_ (g_at m c k)
    blk_ext [iblk, idx t]
  have e2 : ∀ (a : Fin 6) (k : Fin 2048), (iblk m c 2 t : FVec Ideal S1x6x2048 .f32) (ix3 0 a k)
      = M m c (ix3 ⟨t.val / 44, by omega⟩ a k) := fun a k => by
    refine Eq.trans ?_ (mod_at m c ⟨t.val / 44, by omega⟩ (by dsimp only; omega) a k)
    blk_ext [iblk, idx t]
  rw [outsAt0_A m c t hz (by omega) (by omega)]
  frame_out
  canon_tiles x h
  all_goals
    pointwise [k0_pay1, k0_pay4, k0_pay5, k0_pay6, k0_pay7, k0_pay8, k0_pay9, k0_pay10, k0_pay11, hBlk, hAt, hRow]
  all_goals
    idx_vars x
    first
      | change (y : ℕ) = 768 + (x0 : ℕ) at h0
      | change (y : ℕ) = 512 + (x0 : ℕ) at h0
      | change (y : ℕ) = 256 + (x0 : ℕ) at h0
      | change (y : ℕ) = (x0 : ℕ) at h0
    obtain rfl : k = x1 := Fin.ext h1
    simp only [e0, e1, e2, h0, show t.val / 11 / 4 = t.val / 44 by omega]
  all_goals rfl

/-- The other points leave the scratch as it was. -/
theorem scratch_kept (t : Fin cfg0.N) (h0 : ¬t.val % 11 = 0) :
    (outsAt0 m c t.val t.isLt).2 = (outsAt0 m c (t.val - 1) (Nat.lt_of_le_of_lt (Nat.sub_le _ _) t.isLt)).2 := by
  by_cases h1 : t.val % 11 ≤ 7
  · rw [outsAt0_B m c t h0 h1 (by omega)]; rfl
  · rw [outsAt0_C m c t h0 h1 (by omega)]; rfl

/-- So after every point the scratch holds the activations of the point's row tile. -/
theorem scratch (n : ℕ) : ∀ (t : Fin cfg0.N) (hn : t.val % 11 = n) (hi : t.val / 11 < 16) (y : Fin 1024) (k : Fin 2048),
    (outsAt0 m c t.val t.isLt).2 (ix2 y k) = hBlk m c (t.val / 11) hi y k := by
  induction n with
  | zero => exact fun t hn hi y k => scratch_first m c t hn hi y k
  | succ n ih =>
    intro t hn hi y k
    rw [scratch_kept m c t (by omega)]
    have e := ih ⟨t.val - 1, Nat.lt_of_le_of_lt (Nat.sub_le _ _) t.isLt⟩ (by show (t.val - 1) % 11 = n; omega)
      (by show (t.val - 1) / 11 < 16; omega) y k
    simpa only [show (t.val - 1) / 11 = t.val / 11 by omega] using e

/-- A row tile's first point multiplies what it has just stored. -/
theorem out_first (t : Fin cfg0.N) (h0 : t.val % 11 = 0) :
    (outsAt0 m c t.val t.isLt).1 = k0_pay2 (outsAt0 m c t.val t.isLt).2 (iblk m c 3 t) := by
  rw [outsAt0_A m c t h0 (by omega) (by omega)]
  frame_out
  refine congrArg (fun v => k0_pay2 v (iblk m c 3 t)) ?_
  rw [View.readCov_eq_canon']
  funext j
  refine congrArg _ ?_
  funext a
  refine Fin.ext ?_
  show (![0, 0] : Fin 2 → ℕ) a + 1 * (j a : ℕ) = j a
  fin_cases a <;> simp

theorem out_gate (t : Fin cfg0.N) (h0 : ¬t.val % 11 = 0) (h1 : t.val % 11 ≤ 7) :
    (outsAt0 m c t.val t.isLt).1 = k0_pay2 (outsAt0 m c t.val t.isLt).2 (iblk m c 3 t) := by
  rw [scratch_kept m c t h0, outsAt0_B m c t h0 h1 (by omega)]
  frame_out
  exact congrArg (fun v => k0_pay2 v (iblk m c 3 t)) ((Memref.isWhole_whole _).read_unread _)

theorem out_rest (t : Fin cfg0.N) (h1 : ¬t.val % 11 ≤ 7) :
    (outsAt0 m c t.val t.isLt).1 = k0_pay3 (outsAt0 m c t.val t.isLt).2 (iblk m c 4 t) := by
  rw [scratch_kept m c t (by omega), outsAt0_C m c t (by omega) h1 (by omega)]
  frame_out
  exact congrArg (fun v => k0_pay3 v (iblk m c 4 t)) ((Memref.isWhole_whole _).read_unread _)

/-- What a point leaves in the output block. -/
theorem out_at (t : Fin cfg0.N) (hi : t.val / 11 < 16) (y : Fin 1024) (j : Fin 1024) :
    (outsAt0 m c t.val t.isLt).1 (ix2 y j)
      = ∑ k : Fin 2048, hBlk m c (t.val / 11) hi y k * wAt (W m c) k ⟨t.val % 11 * 1024 + j, by omega⟩ := by
  by_cases h1 : t.val % 11 ≤ 7
  · have e : (outsAt0 m c t.val t.isLt).1 = k0_pay2 (outsAt0 m c t.val t.isLt).2 (iblk m c 3 t) := by
      by_cases h0 : t.val % 11 = 0
      · exact out_first m c t h0
      · exact out_gate m c t h0 h1
    rw [e]
    pointwise [k0_pay2]
    refine Finset.sum_congr rfl fun k _ => ?_
    rw [scratch m c _ t rfl hi]
    refine Ideal.mul_congr rfl ?_
    have e3 : (iblk m c 3 t : FVec Ideal S2048x1024 .bf16) (ix2 k j)
        = (V m c main_v9 : FVec Ideal S2048x8192 .bf16) (ix2 k ⟨t.val % 11 * 1024 + j, by omega⟩) := by
      blk_ext [iblk, idx t]
    rw [e3, wg_at, wAt_gate _ k _ h1 j]
  · rw [out_rest m c t h1]
    pointwise [k0_pay3]
    refine Finset.sum_congr rfl fun k _ => ?_
    rw [scratch m c _ t rfl hi]
    refine Ideal.mul_congr rfl ?_
    have e4 : (iblk m c 4 t : FVec Ideal S2048x1024 .bf16) (ix2 k j)
        = (V m c main_v7 : FVec Ideal S2048x3072 .bf16) (ix2 k ⟨(t.val % 11 - 8) * 1024 + j, by omega⟩) := by
      blk_ext [iblk, idx t]
    rw [e4, wr_at, wAt_rest _ k _ h1 (by omega) j]

/-- The array the kernel leaves, and the reference's array: the same at every index. -/
theorem final (m' : (ℓ : Loc Cert.ProjReferenceIdeal.nD Cert.ProjReferenceIdeal.τ Cert.ProjReferenceIdeal.sig) → Buf (Elt Ideal) ℓ)
    (c' : Dev Cert.ProjReferenceIdeal.nD)
    (h0 : m' (c'.tc.loc Cert.ProjReferenceIdeal.main_arg0) = X m c) (h1 : m' (c'.tc.loc Cert.ProjReferenceIdeal.main_arg1) = G m c)
    (h2 : m' (c'.tc.loc Cert.ProjReferenceIdeal.main_arg2) = M m c) (h3 : m' (c'.tc.loc Cert.ProjReferenceIdeal.main_arg3) = W m c) :
    (dats m 0 c).arrAt 5 (cfgs 0).N = Cert.ProjReferenceIdeal.Value.res_out0 (F := Ideal) m' c' := by
  refine (dats m 0 c).arrAt_eq_of_covers 5 _ (by decide +kernel) fun t hf y => ?_
  blk_simp
  rw [after0_5]
  idx_vars y
  have hN : t.val < 176 := lt_of_lt_of_eq t.isLt N_0
  rw [out_at m c t (by omega)]
  have e : ((View.whole main_v12).slice (win0_5.rect t)).emb (ix2 y0 y1)
      = (ix2 ⟨t.val / 11 * 1024 + y0, by omega⟩ ⟨t.val % 11 * 1024 + y1, by omega⟩ : S16384x11264.Idx) := by
    blk_ext [idx t]
  rw [e]
  refine Eq.trans ?_ (ref_at m' c' ⟨t.val / 11 * 1024 + y0, by omega⟩ ⟨t.val % 11 * 1024 + y1, by omega⟩).symm
  rw [h0, h1, h2, h3]
  refine Fin.sum_fin_congr fun k => ?_
  refine Ideal.mul_congr ?_ rfl
  unfold hBlk
  congr 2 <;> (dsimp only; omega)

/-- The input projection's kernel and its reference leave the same array. -/
theorem algebraic : Cert.algebraic_ProjKernelIdeal_ProjReferenceIdeal := by
  pair_intro
  · run_from Cert.ProjKernelIdeal.Gen.run_main m g
  · run_from Cert.ProjReferenceIdeal.Value.run m' g'
    exact (final m c m' c (hagree c).1 (hagree c).2.1 (hagree c).2.2.1 (hagree c).2.2.2).symm

end Cert.ProjBlock
end
-- ==== Proof.MergeMath.lean ====
/- The gated merge as mathematics: what the reference's term is at an index of its result. -/
module

public import proofs.«01_k».proof.Proof.Gen.MergeReferenceIdeal.Run
public import Idealize.ShloMosaic.Lib.Pointwise

@[expose] public section

set_option maxRecDepth 16384

noncomputable section

namespace Cert.MergeMath

open Idealize.ShloMosaic Idealize.ShloMosaic.TcCoe Idealize.SL.Sem
open Cert.MergeReferenceIdeal Cert.MergeReferenceIdeal.Gen

/-- The four branches' gates, as the reference's lines compute them. -/
def gates (p : FVec Ideal S4x4096x11040 .f32) : FVec Ideal S4x4096x4x2048 .f32 :=
  Host.divf (broadcastInDim S4x4096x4x2048 ![] bcast_S_S4x4096x4x2048 (constant S_ .f32 0x3F800000#32)) (addf
  (broadcastInDim S4x4096x4x2048 ![] bcast_S_S4x4096x4x2048 (constant S_ .f32 0x3F800000#32)) (Host.exp (Host.negf
  (shapeCast _ (extractStridedSlice S4x4096x8192 ![0, 0, 2848] p slices_S4x4096x11040_S4x4096x8192_0_0_2848)
  shapeCasts_S4x4096x8192_S4x4096x4x2048))))

/-- The array the reference's lines compute. -/
def refOut (x : FVec Ideal S4x4096x2048 .f32) (mod : FVec Ideal S4x6x2048 .f32) (at' co ff po : FVec Ideal S4x4096x512 .f32)
    (p : FVec Ideal S4x4096x11040 .f32) (wa wc wf wp : FVec Ideal S512x2048 .f32) (wo : FVec Ideal S2048x2048 .f32) :
    FVec Ideal S16384x2048 .f32 :=
  shapeCast _ (addf x (mulf (broadcastInDim S4x4096x2048 ![0, 1, 2] bcast_S4x1x2048_S4x4096x2048_0_1_2
  (broadcastInDim S4x1x2048 ![0, 2] bcast_S4x2048_S4x1x2048_0_2 (shapeCast _ (extractStridedSlice S4x1x2048 ![0,
  2, 0] mod slices_S4x6x2048_S4x1x2048_0_2_0) shapeCasts_S4x1x2048_S4x2048))) (Host.dotGeneral
  dot_S4x4096x2048_S2048x2048_S4x4096x2048_2_0_01_1_n_n none (addf (addf (addf (mulf (shapeCast _
  (extractStridedSlice S4x4096x1x2048 ![0, 0, 0, 0] (gates p) slices_S4x4096x4x2048_S4x4096x1x2048_0_0_0_0)
  shapeCasts_S4x4096x1x2048_S4x4096x2048) (Host.dotGeneral dot_S4x4096x512_S512x2048_S4x4096x2048_2_0_01_1_n_n
  none at' wa )) (mulf (shapeCast _ (extractStridedSlice S4x4096x1x2048 ![0, 0, 1, 0] (gates p)
  slices_S4x4096x4x2048_S4x4096x1x2048_0_0_1_0) shapeCasts_S4x4096x1x2048_S4x4096x2048) (Host.dotGeneral
  dot_S4x4096x512_S512x2048_S4x4096x2048_2_0_01_1_n_n none co wc ))) (mulf (shapeCast _ (extractStridedSlice
  S4x4096x1x2048 ![0, 0, 2, 0] (gates p) slices_S4x4096x4x2048_S4x4096x1x2048_0_0_2_0)
  shapeCasts_S4x4096x1x2048_S4x4096x2048) (Host.dotGeneral dot_S4x4096x512_S512x2048_S4x4096x2048_2_0_01_1_n_n
  none ff wf ))) (mulf (shapeCast _ (extractStridedSlice S4x4096x1x2048 ![0, 0, 3, 0] (gates p)
  slices_S4x4096x4x2048_S4x4096x1x2048_0_0_3_0) shapeCasts_S4x4096x1x2048_S4x4096x2048) (Host.dotGeneral
  dot_S4x4096x512_S512x2048_S4x4096x2048_2_0_01_1_n_n none po wp ))) wo ))) shapeCasts_S4x4096x2048_S16384x2048

/-- The gate with logit `z`. -/
def gate (z : EReal) : EReal := Ideal.div 1 (1 + Ideal.exp (0 - z))

/-- One branch's share of the mix at row `(b, l)` and channel `k`, for any number of rows per sample: its gate times
    its projection. -/
def branch {n : ℕ} (i : ℕ) (hi : i < 4) (p : FVec Ideal ⟨3, ![4, n, 11040]⟩ .f32) (a : FVec Ideal ⟨3, ![4, n, 512]⟩ .f32)
    (w : FVec Ideal S512x2048 .f32) (b : Fin 4) (l : Fin n) (k : Fin 2048) : EReal :=
  gate (p (ix3 b l ⟨2848 + (i * 2048 + k), by omega⟩)) * ∑ d : Fin 512, a (ix3 b l d) * w (ix2 d k)

theorem ref_at (x : FVec Ideal S4x4096x2048 .f32) (mod : FVec Ideal S4x6x2048 .f32) (at' co ff po : FVec Ideal S4x4096x512 .f32)
    (p : FVec Ideal S4x4096x11040 .f32) (wa wc wf wp : FVec Ideal S512x2048 .f32) (wo : FVec Ideal S2048x2048 .f32)
    (r : Fin 16384) (j : Fin 2048) :
    refOut x mod at' co ff po p wa wc wf wp wo (ix2 r j)
      = x (ix3 ⟨r / 4096, by omega⟩ ⟨r % 4096, by omega⟩ j) + mod (ix3 ⟨r / 4096, by omega⟩ 2 j)
        * ∑ k : Fin 2048, (branch 0 (by omega) p at' wa ⟨r / 4096, by omega⟩ ⟨r % 4096, by omega⟩ k
            + branch 1 (by omega) p co wc ⟨r / 4096, by omega⟩ ⟨r % 4096, by omega⟩ k
            + branch 2 (by omega) p ff wf ⟨r / 4096, by omega⟩ ⟨r % 4096, by omega⟩ k
            + branch 3 (by omega) p po wp ⟨r / 4096, by omega⟩ ⟨r % 4096, by omega⟩ k) * wo (ix2 k j) := by
  pointwise [refOut, gates, branch, gate]
  simp only [sub_eq_add_neg, zero_add]

end Cert.MergeMath
end
-- ==== Proof.MergeBlock.lean ====
/- The gated merge's kernel: what its blocks are, what its body leaves, and its result array. -/
module

public import proofs.«01_k».proof.Proof.Gen.MergeKernelIdeal.Value
public import proofs.«01_k».proof.Proof.MergeMath
public import proofs.«01_k».proof.Defs
public import Idealize.ShloMosaic.Lib.Claim
public import Idealize.ShloMosaic.Lib.Pipeline.ValueKit

@[expose] public section

set_option maxRecDepth 16384

noncomputable section

namespace Cert.MergeBlock

open Idealize.ShloMosaic Idealize.ShloMosaic.TcCoe Idealize.SL.Sem
open Idealize.ShloMosaic.Pipeline (Dat)
open Cert.MergeKernelIdeal Cert.MergeKernelIdeal.Gen
open Cert.MergeMath

variable (m : (ℓ : Loc nD τ sig) → Buf (Elt Ideal) ℓ) (c : Dev nD)

/-- Which block of each array the point `t` works on. -/
theorem idx : ∀ t : Fin cfg0.N, win0_0.index t = ![t.val, 0] ∧ win0_1.index t = ![t.val / 16, 0, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![0, 0, 0] ∧ win0_8.index t = ![0, 0]
    ∧ win0_9.index t = ![t.val, 0] ∧ t.val < 64 :=
  (by decide +kernel : ∀ t : Fin grid0.N, _)

abbrev X : FVec Ideal S4x4096x2048 .f32 := m ((c : Thread nD τ).loc main_arg0)
abbrev M : FVec Ideal S4x6x2048 .f32 := m ((c : Thread nD τ).loc main_arg1)
abbrev B0 : FVec Ideal S4x4096x512 .f32 := m ((c : Thread nD τ).loc main_arg2)
abbrev B1 : FVec Ideal S4x4096x512 .f32 := m ((c : Thread nD τ).loc main_arg3)
abbrev B2 : FVec Ideal S4x4096x512 .f32 := m ((c : Thread nD τ).loc main_arg4)
abbrev B3 : FVec Ideal S4x4096x512 .f32 := m ((c : Thread nD τ).loc main_arg5)
abbrev P : FVec Ideal S4x4096x11040 .f32 := m ((c : Thread nD τ).loc main_arg6)
abbrev W0 : FVec Ideal S512x2048 .f32 := m ((c : Thread nD τ).loc main_arg7)
abbrev W1 : FVec Ideal S512x2048 .f32 := m ((c : Thread nD τ).loc main_arg8)
abbrev W2 : FVec Ideal S512x2048 .f32 := m ((c : Thread nD τ).loc main_arg9)
abbrev W3 : FVec Ideal S512x2048 .f32 := m ((c : Thread nD τ).loc main_arg10)
abbrev WO : FVec Ideal S2048x2048 .f32 := m ((c : Thread nD τ).loc main_arg11)

/-- The activations' rows, as the host line leaves them. -/
theorem x_at (r : Fin 16384) (k : Fin 2048) :
    (V m c main_v14 : FVec Ideal S16384x2048 .f32) (ix2 r k)
      = X m c (ix3 ⟨r / 4096, by omega⟩ ⟨r % 4096, by omega⟩ k) := by
  entry_read
  pointwise

theorem mod_at (b : Fin 8) (hb : (b : ℕ) < 4) (a : Fin 6) (k : Fin 2048) :
    (V m c main_v1 : FVec Ideal S8x6x2048 .f32) (ix3 b a k) = M m c (ix3 ⟨b, hb⟩ a k) := by
  entry_read
  pointwise
  rw [dif_pos hb]

theorem b0_at (r : Fin 16384) (d : Fin 512) : (V m c main_v16 : FVec Ideal S16384x512 .bf16) (ix2 r d)
    = B0 m c (ix3 ⟨r / 4096, by omega⟩ ⟨r % 4096, by omega⟩ d) := by
  entry_read
  pointwise

theorem b1_at (r : Fin 16384) (d : Fin 512) : (V m c main_v18 : FVec Ideal S16384x512 .bf16) (ix2 r d)
    = B1 m c (ix3 ⟨r / 4096, by omega⟩ ⟨r % 4096, by omega⟩ d) := by
  entry_read
  pointwise

theorem b2_at (r : Fin 16384) (d : Fin 512) : (V m c main_v20 : FVec Ideal S16384x512 .bf16) (ix2 r d)
    = B2 m c (ix3 ⟨r / 4096, by omega⟩ ⟨r % 4096, by omega⟩ d) := by
  entry_read
  pointwise

theorem b3_at (r : Fin 16384) (d : Fin 512) : (V m c main_v22 : FVec Ideal S16384x512 .bf16) (ix2 r d)
    = B3 m c (ix3 ⟨r / 4096, by omega⟩ ⟨r % 4096, by omega⟩ d) := by
  entry_read
  pointwise

theorem wo_at (k j : Fin 2048) : (V m c main_v24 : FVec Ideal S2048x2048 .bf16) (ix2 k j) = WO m c (ix2 k j) := by
  entry_read
  pointwise

/-- The packed columns: the gates come first. -/
theorem p_eq : (V m c main_v23 : FVec Ideal S16384x11264 .bf16)
    = shapeCast S16384x11264 (concatenate S4x4096x11264 2
        [⟨S4x4096x8192, extractStridedSlice S4x4096x8192 ![0, 0, 2848] (truncf .bf16 (P m c) bitsLt_bf16_f32) slices_S4x4096x11040_S4x4096x8192_0_0_2848⟩,
         ⟨S4x4096x800, extractStridedSlice S4x4096x800 ![0, 0, 0] (truncf .bf16 (P m c) bitsLt_bf16_f32) slices_S4x4096x11040_S4x4096x800_0_0_0⟩,
         ⟨S4x4096x224, broadcastInDim S4x4096x224 ![] bcast_S_S4x4096x224 (constant S_ .bf16 0x0000#16)⟩,
         ⟨S4x4096x2048, extractStridedSlice S4x4096x2048 ![0, 0, 800] (truncf .bf16 (P m c) bitsLt_bf16_f32) slices_S4x4096x11040_S4x4096x2048_0_0_800⟩]
        concatenates_S4x4096x8192_S4x4096x800_S4x4096x224_S4x4096x2048_S4x4096x11264_d2) shapeCasts_S4x4096x11264_S16384x11264 := by
  unfold V
  after_results_simp <;> (try dsimp only [Matrix.cons_val]) <;> (try after_results_simp) <;> rfl

theorem p_at (r : Fin 16384) (j : Fin 11264) (hj : (j : ℕ) < 8192) :
    (V m c main_v23 : FVec Ideal S16384x11264 .bf16) (ix2 r j)
      = P m c (ix3 ⟨r / 4096, by omega⟩ ⟨r % 4096, by omega⟩ ⟨2848 + j, by omega⟩) := by
  rw [p_eq]
  pointwise
  rw [dif_pos hj]

/-- The four branches' matrices, stacked. -/
theorem w_eq : (V m c main_v13 : FVec Ideal S4x512x2048 .bf16)
    = truncf .bf16 (concatenate S4x512x2048 0
        [⟨S1x512x2048, broadcastInDim S1x512x2048 ![1, 2] bcast_S512x2048_S1x512x2048_1_2 (W0 m c)⟩,
         ⟨S1x512x2048, broadcastInDim S1x512x2048 ![1, 2] bcast_S512x2048_S1x512x2048_1_2 (W1 m c)⟩,
         ⟨S1x512x2048, broadcastInDim S1x512x2048 ![1, 2] bcast_S512x2048_S1x512x2048_1_2 (W2 m c)⟩,
         ⟨S1x512x2048, broadcastInDim S1x512x2048 ![1, 2] bcast_S512x2048_S1x512x2048_1_2 (W3 m c)⟩]
        concatenates_S1x512x2048_S1x512x2048_S1x512x2048_S1x512x2048_S4x512x2048_d0) bitsLt_bf16_f32 := by
  unfold V
  after_results_simp <;> (try dsimp only [Matrix.cons_val]) <;> (try after_results_simp) <;> rfl

theorem w_at (d : Fin 512) (k : Fin 2048) :
    (V m c main_v13 : FVec Ideal S4x512x2048 .bf16) (ix3 0 d k) = W0 m c (ix2 d k)
    ∧ (V m c main_v13 : FVec Ideal S4x512x2048 .bf16) (ix3 1 d k) = W1 m c (ix2 d k)
    ∧ (V m c main_v13 : FVec Ideal S4x512x2048 .bf16) (ix3 2 d k) = W2 m c (ix2 d k)
    ∧ (V m c main_v13 : FVec Ideal S4x512x2048 .bf16) (ix3 3 d k) = W3 m c (ix2 d k) := by
  rw [w_eq]
  refine ⟨?_, ?_, ?_, ?_⟩ <;> pointwise

/-- The gates' block, read off the packed columns. -/
theorem gate_blk (t : Fin cfg0.N) (y : Fin 256) (j : Fin 8192) :
    (X0_6 m c t : FVec Ideal S256x8192 .bf16) (ix2 y j)
      = (V m c main_v23 : FVec Ideal S16384x11264 .bf16) (ix2 ⟨t.val * 256 + y, by have := lt_of_lt_of_eq t.isLt N_0; omega⟩ ⟨j, by omega⟩) := by
  unfold X0_6 Pipeline.Window.fill
  rw [dif_pos (moved0_6 t _)]
  blk_ext [iblk, idx t]

set_option maxHeartbeats 1000000 in
/-- What a point leaves in the output block: the reference's array at the block's rows. -/
theorem out_at (t : Fin cfg0.N) (ht : t.val < 64) (y : Fin 256) (j : Fin 2048) :
    outsAt0 m c t (ix2 y j) = refOut (X m c) (M m c) (B0 m c) (B1 m c) (B2 m c) (B3 m c) (P m c) (W0 m c) (W1 m c) (W2 m c)
      (W3 m c) (WO m c) (ix2 ⟨t.val * 256 + y, by omega⟩ j) := by
  have e0 : (iblk m c 0 t : FVec Ideal S256x2048 .f32) (ix2 y j)
      = X m c (ix3 ⟨(t.val * 256 + y) / 4096, by omega⟩ ⟨(t.val * 256 + y) % 4096, by omega⟩ j) := by
    refine Eq.trans ?_ (x_at m c ⟨t.val * 256 + y, by omega⟩ j)
    blk_ext [iblk, idx t]
  have e1 : (iblk m c 1 t : FVec Ideal S1x6x2048 .f32) (ix3 0 2 j)
      = M m c (ix3 ⟨(t.val * 256 + y) / 4096, by omega⟩ 2 j) := by
    refine Eq.trans ?_ ((mod_at m c ⟨t.val / 16, by omega⟩ (by dsimp only; omega) 2 j).trans ?_)
    · blk_ext [iblk, idx t]
    · blk_ext
  have e2 : ∀ d : Fin 512, (iblk m c 2 t : FVec Ideal S256x512 .bf16) (ix2 y d)
      = B0 m c (ix3 ⟨(t.val * 256 + y) / 4096, by omega⟩ ⟨(t.val * 256 + y) % 4096, by omega⟩ d) := fun d => by
    refine Eq.trans ?_ (b0_at m c ⟨t.val * 256 + y, by omega⟩ d)
    blk_ext [iblk, idx t]
  have e3 : ∀ d : Fin 512, (iblk m c 3 t : FVec Ideal S256x512 .bf16) (ix2 y d)
      = B1 m c (ix3 ⟨(t.val * 256 + y) / 4096, by omega⟩ ⟨(t.val * 256 + y) % 4096, by omega⟩ d) := fun d => by
    refine Eq.trans ?_ (b1_at m c ⟨t.val * 256 + y, by omega⟩ d)
    blk_ext [iblk, idx t]
  have e4 : ∀ d : Fin 512, (iblk m c 4 t : FVec Ideal S256x512 .bf16) (ix2 y d)
      = B2 m c (ix3 ⟨(t.val * 256 + y) / 4096, by omega⟩ ⟨(t.val * 256 + y) % 4096, by omega⟩ d) := fun d => by
    refine Eq.trans ?_ (b2_at m c ⟨t.val * 256 + y, by omega⟩ d)
    blk_ext [iblk, idx t]
  have e5 : ∀ d : Fin 512, (iblk m c 5 t : FVec Ideal S256x512 .bf16) (ix2 y d)
      = B3 m c (ix3 ⟨(t.val * 256 + y) / 4096, by omega⟩ ⟨(t.val * 256 + y) % 4096, by omega⟩ d) := fun d => by
    refine Eq.trans ?_ (b3_at m c ⟨t.val * 256 + y, by omega⟩ d)
    blk_ext [iblk, idx t]
  have e6 : ∀ z : Fin 8192, (X0_6 m c t : FVec Ideal S256x8192 .bf16) (ix2 y z)
      = P m c (ix3 ⟨(t.val * 256 + y) / 4096, by omega⟩ ⟨(t.val * 256 + y) % 4096, by omega⟩ ⟨2848 + z, by omega⟩) :=
    fun z => (gate_blk m c t y z).trans (p_at m c ⟨t.val * 256 + y, by omega⟩ ⟨z, by omega⟩ z.isLt)
  have e7 : ∀ (i : Fin 4) (d : Fin 512) (k : Fin 2048), (iblk m c 7 t : FVec Ideal S4x512x2048 .bf16) (ix3 i d k)
      = (V m c main_v13 : FVec Ideal S4x512x2048 .bf16) (ix3 i d k) := fun i d k => by
    blk_ext [iblk, idx t]
  have e8 : ∀ k : Fin 2048, (iblk m c 8 t : FVec Ideal S2048x2048 .bf16) (ix2 k j) = WO m c (ix2 k j) := fun k => by
    refine Eq.trans ?_ (wo_at m c k j)
    blk_ext [iblk, idx t]
  refine Eq.trans ?_ (ref_at _ _ _ _ _ _ _ _ _ _ _ _ ⟨t.val * 256 + y, by omega⟩ j).symm
  unfold outsAt0
  frame_out
  pointwise [k0_pay1, k0_pay2, k0_pay3, k0_pay4, branch, gate]
  simp only [e0, e1, e2, e3, e4, e5, e6, e7, e8, (w_at m c _ _).1, (w_at m c _ _).2.1, (w_at m c _ _).2.2.1, (w_at m c _ _).2.2.2]

/-- The array the kernel leaves is the reference's. -/
theorem final : (dats m 0 c).arrAt 9 (cfgs 0).N = refOut (X m c) (M m c) (B0 m c) (B1 m c) (B2 m c) (B3 m c) (P m c) (W0 m c)
    (W1 m c) (W2 m c) (W3 m c) (WO m c) := by
  refine (dats m 0 c).arrAt_eq_of_covers 9 _ (by decide +kernel) fun t hf y => ?_
  blk_simp
  rw [after0_9]
  idx_vars y
  have hN : t.val < 64 := lt_of_lt_of_eq t.isLt N_0
  rw [out_at m c t hN]
  refine congrArg _ ?_
  blk_ext [idx t]

/-- The gated merge's kernel and its reference leave the same array. -/
theorem algebraic : Cert.algebraic_MergeKernelIdeal_MergeReferenceIdeal := by
  pair_intro
  · run_from Cert.MergeKernelIdeal.Gen.run_main m g
  · run_from Cert.MergeReferenceIdeal.Value.run m' g'
    exact (final m c).symm

end Cert.MergeBlock
end
-- ==== Proof.CtxProjBlock.lean ====
/- The context rows' projection: what its blocks are, what its body leaves, and its result array. -/
module

public import proofs.«01_k».proof.Proof.Gen.CtxProjKernelIdeal.Value
public import proofs.«01_k».proof.Proof.ProjMath
public import proofs.«01_k».proof.Proof.Gen.CtxProjReferenceIdeal.Run
public import proofs.«01_k».proof.Defs
public import Idealize.ShloMosaic.Lib.Claim
public import Idealize.ShloMosaic.Lib.Pipeline.ValueKit

@[expose] public section

set_option maxRecDepth 16384

noncomputable section

namespace Cert.CtxProjBlock

open Idealize.ShloMosaic Idealize.ShloMosaic.TcCoe Idealize.SL.Sem
open Idealize.ShloMosaic.Pipeline (Dat)
open Cert.CtxProjKernelIdeal Cert.CtxProjKernelIdeal.Gen
open Cert.ProjMath

variable (m : (ℓ : Loc nD τ sig) → Buf (Elt Ideal) ℓ) (c : Dev nD)

/-- Which block of each array the point `t` works on. -/
theorem idx : ∀ t : Fin cfg0.N, win0_0.index t = ![0, 0] ∧ win0_1.index t = ![0, 0]
    ∧ win0_2.index t = ![4, 0, 0] ∧ win0_3.index t = ![0, min t.val 7]
    ∧ win0_4.index t = ![0, t.val - 8] ∧ win0_5.index t = ![0, t.val] ∧ t.val < 11 :=
  (by decide +kernel : ∀ t : Fin grid0.N, _)

abbrev X : FVec Ideal S4x256x2048 .f32 := m ((c : Thread nD τ).loc main_arg0)
abbrev G : FVec Ideal S2048 .f32 := m ((c : Thread nD τ).loc main_arg1)
abbrev M : FVec Ideal S5x6x2048 .f32 := m ((c : Thread nD τ).loc main_arg2)
abbrev W : FVec Ideal S2048x11040 .f32 := m ((c : Thread nD τ).loc main_arg3)

/-- The activation of context row `y` at channel `k`: its modulation is the row after the four samples'. -/
def hAt (x : FVec Ideal S4x256x2048 .f32) (g : FVec Ideal S2048 .f32) (mod : FVec Ideal S5x6x2048 .f32)
    (y : Fin 1024) (k : Fin 2048) : EReal :=
  hRow (fun k => x (ix3 ⟨y / 256, by omega⟩ ⟨y % 256, by omega⟩ k)) (fun k => g (ix1 k)) (fun k => mod (ix3 4 0 k))
    (fun k => mod (ix3 4 1 k)) k

/-- The reference's term at an index of its result. -/
theorem ref_at (m : (ℓ : Loc Cert.CtxProjReferenceIdeal.nD Cert.CtxProjReferenceIdeal.τ Cert.CtxProjReferenceIdeal.sig) → Buf (Elt Ideal) ℓ)
    (c : Dev Cert.CtxProjReferenceIdeal.nD) (r : Fin 1024) (j : Fin 11264) :
    Cert.CtxProjReferenceIdeal.Value.res_out0 (F := Ideal) m c (ix2 r j)
      = ∑ k : Fin 2048, hAt (m (c.tc.loc Cert.CtxProjReferenceIdeal.main_arg0)) (m (c.tc.loc Cert.CtxProjReferenceIdeal.main_arg1))
          (m (c.tc.loc Cert.CtxProjReferenceIdeal.main_arg2)) r k * wAt (m (c.tc.loc Cert.CtxProjReferenceIdeal.main_arg3)) k j := by
  refine Eq.trans ?_ (packed _ _ j)
  pointwise [Cert.CtxProjReferenceIdeal.Value.res_out0, Cert.CtxProjReferenceIdeal.Value.res_main_v33, hAt, hRow]

/-- The context rows, as the host line leaves them. -/
theorem x_at (r : Fin 1024) (k : Fin 2048) :
    (V m c main_v10 : FVec Ideal S1024x2048 .f32) (ix2 r k) = X m c (ix3 ⟨r / 256, by omega⟩ ⟨r % 256, by omega⟩ k) := by
  entry_read
  pointwise

theorem g_at (k : Fin 2048) : (V m c main_v11 : FVec Ideal S1x2048 .f32) (ix2 0 k) = G m c (ix1 k) := by
  entry_read
  pointwise

/-- The context's row of the modulation. -/
theorem mod_at (a : Fin 6) (k : Fin 2048) :
    (V m c main_v1 : FVec Ideal S8x6x2048 .f32) (ix3 4 a k) = M m c (ix3 4 a k) := by
  entry_read
  pointwise

/-- The gate columns of the packed matrix, as the host line leaves them. -/
theorem wg_at (k : Fin 2048) (j : Fin 8192) :
    (V m c main_v9 : FVec Ideal S2048x8192 .bf16) (ix2 k j) = W m c (ix2 k ⟨2848 + j, by omega⟩) := by
  entry_read
  pointwise

/-- The packed matrix's other columns: the latent-attention columns, 224 of zeros, the other branches' columns. -/
theorem wr_eq : (V m c main_v7 : FVec Ideal S2048x3072 .bf16)
    = concatenate S2048x3072 1
        [⟨S2048x800, truncf .bf16 (extractStridedSlice S2048x800 ![0, 0] (W m c) slices_S2048x11040_S2048x800_0_0) bitsLt_bf16_f32⟩,
         ⟨S2048x224, broadcastInDim S2048x224 ![] bcast_S_S2048x224 (constant S_ .bf16 0x0000#16)⟩,
         ⟨S2048x2048, truncf .bf16 (extractStridedSlice S2048x2048 ![0, 800] (W m c) slices_S2048x11040_S2048x2048_0_800) bitsLt_bf16_f32⟩]
        concatenates_S2048x800_S2048x224_S2048x2048_S2048x3072_d1 := by
  unfold V
  after_results_simp <;> (try dsimp only [Matrix.cons_val]) <;> (try after_results_simp) <;> rfl

theorem wr_at (k : Fin 2048) (j : Fin 3072) :
    (V m c main_v7 : FVec Ideal S2048x3072 .bf16) (ix2 k j) = restAt (W m c) k j := by
  rw [wr_eq]
  refine Eq.trans ?_ (rest_pieces _ k j)
  pointwise

/-- The first point leaves the activations in the scratch. -/
theorem scratch_first (t : Fin cfg0.N) (hz : t.val = 0) (y : Fin 1024) (k : Fin 2048) :
    (outsAt0 m c t.val t.isLt).2 (ix2 y k) = hAt (X m c) (G m c) (M m c) y k := by
  have e0 : ∀ (r : Fin 1024) (k : Fin 2048), (iblk m c 0 t : FVec Ideal S1024x2048 .f32) (ix2 r k)
      = X m c (ix3 ⟨r / 256, by omega⟩ ⟨r % 256, by omega⟩ k) := fun r k => by
    refine Eq.trans ?_ (x_at m c r k)
    blk_ext [iblk, idx t]
  have e1 : ∀ k : Fin 2048, (iblk m c 1 t : FVec Ideal S1x2048 .f32) (ix2 0 k) = G m c (ix1 k) := fun k => by
    refine Eq.trans ?_ (g_at m c k)
    blk_ext [iblk, idx t]
  have e2 : ∀ (a : Fin 6) (k : Fin 2048), (iblk m c 2 t : FVec Ideal S1x6x2048 .f32) (ix3 0 a k) = M m c (ix3 4 a k) := fun a k => by
    refine Eq.trans ?_ (mod_at m c a k)
    blk_ext [iblk, idx t]
  rw [outsAt0_A m c t (by omega) (by omega) (by omega)]
  frame_out
  canon_tiles x h
  all_goals
    pointwise [k0_pay1, k0_pay4, k0_pay5, k0_pay6, k0_pay7, k0_pay8, k0_pay9, k0_pay10, k0_pay11, hAt, hRow]
  all_goals
    idx_vars x
    first
      | change (y : ℕ) = 768 + (x0 : ℕ) at h0
      | change (y : ℕ) = 512 + (x0 : ℕ) at h0
      | change (y : ℕ) = 256 + (x0 : ℕ) at h0
      | change (y : ℕ) = (x0 : ℕ) at h0
    obtain rfl : k = x1 := Fin.ext h1
    simp only [e0, e1, e2, h0]

/-- The other points leave the scratch as it was. -/
theorem scratch_kept (t : Fin cfg0.N) (h0 : ¬t.val = 0) :
    (outsAt0 m c t.val t.isLt).2 = (outsAt0 m c (t.val - 1) (Nat.lt_of_le_of_lt (Nat.sub_le _ _) t.isLt)).2 := by
  have hN : t.val < 11 := lt_of_lt_of_eq t.isLt N_0
  by_cases h1 : t.val < 8
  · rw [outsAt0_B m c t (by omega) h1 (by omega)]; rfl
  · rw [outsAt0_C m c t (by omega) h1 (by omega)]; rfl

/-- So after every point the scratch holds the activations. -/
theorem scratch (n : ℕ) : ∀ (t : Fin cfg0.N) (hn : t.val = n) (y : Fin 1024) (k : Fin 2048),
    (outsAt0 m c t.val t.isLt).2 (ix2 y k) = hAt (X m c) (G m c) (M m c) y k := by
  induction n with
  | zero => exact fun t hn y k => scratch_first m c t hn y k
  | succ n ih =>
    intro t hn y k
    rw [scratch_kept m c t (by omega)]
    exact ih ⟨t.val - 1, Nat.lt_of_le_of_lt (Nat.sub_le _ _) t.isLt⟩ (by show t.val - 1 = n; omega) y k

/-- The first eight points multiply the scratch, which the first has just stored, by a block of the gates' columns. -/
theorem out_gate (t : Fin cfg0.N) (h1 : t.val < 8) :
    (outsAt0 m c t.val t.isLt).1 = k0_pay2 (outsAt0 m c t.val t.isLt).2 (iblk m c 3 t) := by
  by_cases h0 : t.val = 0
  · rw [outsAt0_A m c t (by omega) (by omega) (by omega)]
    frame_out
    refine congrArg (fun v => k0_pay2 v (iblk m c 3 t)) ?_
    rw [View.readCov_eq_canon']
    funext j
    refine congrArg _ ?_
    funext a
    refine Fin.ext ?_
    show (![0, 0] : Fin 2 → ℕ) a + 1 * (j a : ℕ) = j a
    fin_cases a <;> simp
  · rw [scratch_kept m c t h0, outsAt0_B m c t (by omega) h1 (by omega)]
    frame_out
    exact congrArg (fun v => k0_pay2 v (iblk m c 3 t)) ((Memref.isWhole_whole _).read_unread _)

/-- The last three multiply it by a block of the other columns. -/
theorem out_rest (t : Fin cfg0.N) (h1 : ¬t.val < 8) :
    (outsAt0 m c t.val t.isLt).1 = k0_pay3 (outsAt0 m c t.val t.isLt).2 (iblk m c 4 t) := by
  have hN : t.val < 11 := lt_of_lt_of_eq t.isLt N_0
  rw [scratch_kept m c t (by omega), outsAt0_C m c t (by omega) h1 (by omega)]
  frame_out
  exact congrArg (fun v => k0_pay3 v (iblk m c 4 t)) ((Memref.isWhole_whole _).read_unread _)

/-- What a point leaves in the output block. -/
theorem out_at (t : Fin cfg0.N) (ht : t.val < 11) (y : Fin 1024) (j : Fin 1024) :
    (outsAt0 m c t.val t.isLt).1 (ix2 y j)
      = ∑ k : Fin 2048, hAt (X m c) (G m c) (M m c) y k * wAt (W m c) k ⟨t.val * 1024 + j, by omega⟩ := by
  by_cases h1 : t.val < 8
  · rw [out_gate m c t h1]
    pointwise [k0_pay2]
    refine Finset.sum_congr rfl fun k _ => ?_
    rw [scratch m c _ t rfl]
    refine Ideal.mul_congr rfl ?_
    have e3 : (iblk m c 3 t : FVec Ideal S2048x1024 .bf16) (ix2 k j)
        = (V m c main_v9 : FVec Ideal S2048x8192 .bf16) (ix2 k ⟨t.val * 1024 + j, by omega⟩) := by
      blk_ext [iblk, idx t]
    rw [e3, wg_at, wAt_gate _ k _ (by omega) j]
  · rw [out_rest m c t h1]
    pointwise [k0_pay3]
    refine Finset.sum_congr rfl fun k _ => ?_
    rw [scratch m c _ t rfl]
    refine Ideal.mul_congr rfl ?_
    have e4 : (iblk m c 4 t : FVec Ideal S2048x1024 .bf16) (ix2 k j)
        = (V m c main_v7 : FVec Ideal S2048x3072 .bf16) (ix2 k ⟨(t.val - 8) * 1024 + j, by omega⟩) := by
      blk_ext [iblk, idx t]
    rw [e4, wr_at, wAt_rest _ k _ (by omega) ht j]

/-- The array the kernel leaves, and the reference's array: the same at every index. -/
theorem final (A : FVec Ideal S1024x11264 .bf16)
    (hA : ∀ r j, A (ix2 r j) = ∑ k : Fin 2048, hAt (X m c) (G m c) (M m c) r k * wAt (W m c) k j) :
    (dats m 0 c).arrAt 5 (cfgs 0).N = A := by
  refine (dats m 0 c).arrAt_eq_of_covers 5 _ (by decide +kernel) fun t hf y => ?_
  blk_simp
  rw [after0_5]
  idx_vars y
  have hN : t.val < 11 := lt_of_lt_of_eq t.isLt N_0
  rw [out_at m c t hN]
  have e : ((View.whole main_v12).slice (win0_5.rect t)).emb (ix2 y0 y1)
      = (ix2 y0 ⟨t.val * 1024 + y1, by omega⟩ : S1024x11264.Idx) := by
    blk_ext [idx t]
  rw [e, hA]

/-- The context projection's kernel and its reference leave the same array. -/
theorem algebraic : Cert.algebraic_CtxProjKernelIdeal_CtxProjReferenceIdeal := by
  pair_intro
  · run_from Cert.CtxProjKernelIdeal.Gen.run_main m g
  · run_from Cert.CtxProjReferenceIdeal.Value.run m' g'
    refine (final m c _ fun r j => ?_).symm
    refine (ref_at m' c r j).trans ?_
    rw [(hagree c).1, (hagree c).2.1, (hagree c).2.2.1, (hagree c).2.2.2]

end Cert.CtxProjBlock
end
-- ==== Proof.ModBlock.lean ====
/- The modulation call: what its blocks are, what its body leaves, and its result array beside the reference's. -/
module

public import proofs.«01_k».proof.Proof.Gen.ModKernelIdeal.Value
public import proofs.«01_k».proof.Proof.Gen.ModReferenceIdeal.Run
public import proofs.«01_k».proof.Defs
public import Idealize.ShloMosaic.Lib.Claim
public import Idealize.ShloMosaic.Lib.Pointwise
public import Idealize.ShloMosaic.Lib.Pipeline.ValueKit

@[expose] public section

set_option maxRecDepth 16384

noncomputable section

namespace Cert.ModBlock

open Idealize.ShloMosaic Idealize.ShloMosaic.TcCoe Idealize.SL.Sem
open Idealize.ShloMosaic.Pipeline (Dat)
open Cert.ModKernelIdeal Cert.ModKernelIdeal.Gen

/-- Row `n` of the conditioning vectors: the four samples, the context, then zeros. -/
def cAt (x : FVec Ideal S4x2048 .f32) (y : FVec Ideal S2048 .f32) (n : Fin 8) (k : Fin 2048) : EReal :=
  if h : (n : ℕ) < 4 then x (ix2 ⟨n, h⟩ k) else if h : (n : ℕ) - 4 < 1 then y (ix1 k) else 0

/-- `x` times its sigmoid. -/
def silu (x : EReal) : EReal := x * Ideal.div 1 (1 + Ideal.exp (-x))

/-- The modulation of layer `l` for row `n` at column `j`. -/
def modAt (x : FVec Ideal S4x2048 .f32) (y : FVec Ideal S2048 .f32) (w : FVec Ideal S2x2048x12288 .f32)
    (b : FVec Ideal S2x12288 .f32) (l : Fin 2) (n : Fin 8) (j : Fin 12288) : EReal :=
  (∑ k : Fin 2048, silu (cAt x y n k) * w (ix3 l k j)) + b (ix2 l j)

variable (m : (ℓ : Loc nD τ sig) → Buf (Elt Ideal) ℓ) (c : Dev nD)

/-- Which block of each array the point `t` works on. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 12 :=
  (by decide +kernel : ∀ t : Fin grid0.N, _)

abbrev C : FVec Ideal S4x2048 .f32 := m ((c : Thread nD τ).loc main_arg0)
abbrev CC : FVec Ideal S2048 .f32 := m ((c : Thread nD τ).loc main_arg1)
abbrev W : FVec Ideal S2x2048x12288 .f32 := m ((c : Thread nD τ).loc main_arg2)
abbrev B : FVec Ideal S2x12288 .f32 := m ((c : Thread nD τ).loc main_arg3)

/-- The padded conditioning vectors, as the host line leaves them. -/
theorem c_eq : (V m c main_v2 : FVec Ideal S8x2048 .f32)
    = concatenate S8x2048 0
        [⟨S4x2048, C m c⟩, ⟨S1x2048, broadcastInDim S1x2048 ![1] bcast_S2048_S1x2048_1 (CC m c)⟩,
         ⟨S3x2048, broadcastInDim S3x2048 ![] bcast_S_S3x2048 (constant S_ .f32 0x00000000#32)⟩]
        concatenates_S4x2048_S1x2048_S3x2048_S8x2048_d0 := by
  unfold V
  after_results_simp <;> (try dsimp only [Matrix.cons_val]) <;> (try after_results_simp) <;> rfl

theorem c_at (n : Fin 8) (k : Fin 2048) :
    (V m c main_v2 : FVec Ideal S8x2048 .f32) (ix2 n k) = cAt (C m c) (CC m c) n k := by
  rw [c_eq]
  pointwise [cAt]

theorem b_at (l : Fin 2) (j : Fin 12288) :
    (V m c main_v3 : FVec Ideal S2x1x12288 .f32) (ix3 l 0 j) = B m c (ix2 l j) := by
  entry_read
  pointwise

theorem w_at (l : Fin 2) (k : Fin 2048) (j : Fin 12288) :
    (V m c main_arg2 : FVec Ideal S2x2048x12288 .f32) (ix3 l k j) = W m c (ix3 l k j) := by
  rw [V_main_arg2]

/-- What a point leaves in the output block. -/
theorem out_at (t : Fin cfg0.N) (hl : t.val / 6 < 2) (n : Fin 8) (j : Fin 2048) :
    out0_3 (iblk m c 0 t) (iblk m c 1 t) (iblk m c 2 t) (ix3 0 n j)
      = modAt (C m c) (CC m c) (W m c) (B m c) ⟨t.val / 6, hl⟩ n ⟨t.val % 6 * 2048 + j, by omega⟩ := by
  have e0 : ∀ k : Fin 2048, (iblk m c 0 t : FVec Ideal S8x2048 .f32) (ix2 n k) = cAt (C m c) (CC m c) n k := fun k => by
    refine Eq.trans ?_ (c_at m c n k)
    blk_ext [iblk, idx t]
  have e1 : ∀ k : Fin 2048, (iblk m c 1 t : FVec Ideal S1x2048x2048 .f32) (ix3 0 k j)
      = W m c (ix3 ⟨t.val / 6, hl⟩ k ⟨t.val % 6 * 2048 + j, by omega⟩) := fun k => by
    refine Eq.trans ?_ (w_at m c _ k _)
    blk_ext [iblk, idx t]
  have e2 : (iblk m c 2 t : FVec Ideal S1x1x2048 .f32) (ix3 0 0 j)
      = B m c (ix2 ⟨t.val / 6, hl⟩ ⟨t.val % 6 * 2048 + j, by omega⟩) := by
    refine Eq.trans ?_ (b_at m c _ _)
    blk_ext [iblk, idx t]
  unfold out0_3
  canon_tiles x h
  idx_vars x
  obtain rfl : n = x1 := Fin.ext h1
  obtain rfl : j = x2 := Fin.ext h2
  pointwise [k0_pay1, modAt, silu]
  simp only [e0, e1, e2, sub_eq_add_neg, zero_add]

/-- The array the kernel leaves is any array that has the modulation at every index. -/
theorem final (A : FVec Ideal S2x8x12288 .f32)
    (hA : ∀ l n j, A (ix3 l n j) = modAt (C m c) (CC m c) (W m c) (B m c) l n j) :
    (dats m 0 c).arrAt 3 (cfgs 0).N = A := by
  refine (dats m 0 c).arrAt_eq_of_covers 3 _ (by decide +kernel) fun t hf y => ?_
  blk_simp
  rw [after0_3]
  idx_vars y
  have hN : t.val < 12 := lt_of_lt_of_eq t.isLt N_0
  obtain rfl : y0 = 0 := Subsingleton.elim _ _
  rw [out_at m c t (by omega)]
  have e : ((View.whole main_v4).slice (win0_3.rect t)).emb (ix3 0 y1 y2)
      = (ix3 ⟨t.val / 6, by omega⟩ y1 ⟨t.val % 6 * 2048 + y2, by omega⟩ : S2x8x12288.Idx) := by
    blk_ext [idx t]
  rw [e, hA]

/-- The modulation's kernel and its reference leave the same array. -/
theorem algebraic : Cert.algebraic_ModKernelIdeal_ModReferenceIdeal := by
  pair_intro
  · run_from Cert.ModKernelIdeal.Gen.run_main m g
  · run_from Cert.ModReferenceIdeal.Value.run m' g'
    refine (final m c _ fun l n j => ?_).symm
    pointwise [modAt, silu, cAt]
    rw [(hagree c).2.2.2]
    by_cases h : (l : ℕ) < 1
    · obtain rfl : l = 0 := Fin.ext (by show (l : ℕ) = 0; omega)
      rfl
    · obtain rfl : l = 1 := Fin.ext (by show (l : ℕ) = 1; omega)
      rfl

end Cert.ModBlock
end
-- ==== Proof.CtxMergeMath.lean ====
/- The context rows' merge as mathematics: what the reference's term is at an index of its result. -/
module

public import proofs.«01_k».proof.Proof.Gen.CtxMergeReferenceIdeal.Run
public import proofs.«01_k».proof.Proof.MergeMath
public import Idealize.ShloMosaic.Lib.Pointwise

@[expose] public section

set_option maxRecDepth 16384

noncomputable section

namespace Cert.CtxMergeMath

open Idealize.ShloMosaic Idealize.ShloMosaic.TcCoe Idealize.SL.Sem
open Cert.CtxMergeReferenceIdeal Cert.CtxMergeReferenceIdeal.Gen
open Cert.MergeMath (branch gate)

/-- The four branches' gates, as the reference's lines compute them. -/
def gates (p : FVec Ideal S4x256x11040 .f32) : FVec Ideal S4x256x4x2048 .f32 :=
  Host.divf (broadcastInDim S4x256x4x2048 ![] bcast_S_S4x256x4x2048 (constant S_ .f32 0x3F800000#32)) (addf
  (broadcastInDim S4x256x4x2048 ![] bcast_S_S4x256x4x2048 (constant S_ .f32 0x3F800000#32)) (Host.exp (Host.negf
  (shapeCast _ (extractStridedSlice S4x256x8192 ![0, 0, 2848] p slices_S4x256x11040_S4x256x8192_0_0_2848)
  shapeCasts_S4x256x8192_S4x256x4x2048))))

/-- The merged context rows, as the reference's lines compute them. -/
def rows (x : FVec Ideal S4x256x2048 .f32) (mod : FVec Ideal S5x6x2048 .f32) (at' co ff po : FVec Ideal S4x256x512 .f32)
    (p : FVec Ideal S4x256x11040 .f32) (wa wc wf wp : FVec Ideal S512x2048 .f32) (wo : FVec Ideal S2048x2048 .f32) :
    FVec Ideal S1024x2048 .f32 :=
  shapeCast _ (addf x (mulf (broadcastInDim S4x256x2048 ![0, 1, 2] bcast_S1x1x2048_S4x256x2048_0_1_2
  (broadcastInDim S1x1x2048 ![0, 2] bcast_S1x2048_S1x1x2048_0_2 (shapeCast _ (extractStridedSlice S1x1x2048 ![0, 2, 0]
  (extractStridedSlice S1x6x2048 ![4, 0, 0] mod slices_S5x6x2048_S1x6x2048_4_0_0) slices_S1x6x2048_S1x1x2048_0_2_0)
  shapeCasts_S1x1x2048_S1x2048))) (Host.dotGeneral
  dot_S4x256x2048_S2048x2048_S4x256x2048_2_0_01_1_n_n none (addf (addf (addf (mulf (shapeCast _
  (extractStridedSlice S4x256x1x2048 ![0, 0, 0, 0] (gates p) slices_S4x256x4x2048_S4x256x1x2048_0_0_0_0)
  shapeCasts_S4x256x1x2048_S4x256x2048) (Host.dotGeneral dot_S4x256x512_S512x2048_S4x256x2048_2_0_01_1_n_n
  none at' wa )) (mulf (shapeCast _ (extractStridedSlice S4x256x1x2048 ![0, 0, 1, 0] (gates p)
  slices_S4x256x4x2048_S4x256x1x2048_0_0_1_0) shapeCasts_S4x256x1x2048_S4x256x2048) (Host.dotGeneral
  dot_S4x256x512_S512x2048_S4x256x2048_2_0_01_1_n_n none co wc ))) (mulf (shapeCast _ (extractStridedSlice
  S4x256x1x2048 ![0, 0, 2, 0] (gates p) slices_S4x256x4x2048_S4x256x1x2048_0_0_2_0)
  shapeCasts_S4x256x1x2048_S4x256x2048) (Host.dotGeneral dot_S4x256x512_S512x2048_S4x256x2048_2_0_01_1_n_n
  none ff wf ))) (mulf (shapeCast _ (extractStridedSlice S4x256x1x2048 ![0, 0, 3, 0] (gates p)
  slices_S4x256x4x2048_S4x256x1x2048_0_0_3_0) shapeCasts_S4x256x1x2048_S4x256x2048) (Host.dotGeneral
  dot_S4x256x512_S512x2048_S4x256x2048_2_0_01_1_n_n none po wp ))) wo ))) shapeCasts_S4x256x2048_S1024x2048

theorem rows_at (x : FVec Ideal S4x256x2048 .f32) (mod : FVec Ideal S5x6x2048 .f32) (at' co ff po : FVec Ideal S4x256x512 .f32)
    (p : FVec Ideal S4x256x11040 .f32) (wa wc wf wp : FVec Ideal S512x2048 .f32) (wo : FVec Ideal S2048x2048 .f32)
    (b : Fin 4) (l : Fin 256) (j : Fin 2048) :
    rows x mod at' co ff po p wa wc wf wp wo (ix2 ⟨b * 256 + l, by omega⟩ j)
      = x (ix3 b l j) + mod (ix3 4 2 j) * ∑ k : Fin 2048, (branch 0 (by omega) p at' wa b l k + branch 1 (by omega) p co wc b l k
          + branch 2 (by omega) p ff wf b l k + branch 3 (by omega) p po wp b l k) * wo (ix2 k j) := by
  pointwise [rows, gates, branch, gate]
  simp only [sub_eq_add_neg, zero_add]

/-- The rows of the array written into, then the merged ones. -/
def refOut (prev : FVec Ideal S17408x2048 .f32) (xc : FVec Ideal S1024x2048 .f32) : FVec Ideal S17408x2048 .f32 :=
  concatenate S17408x2048 0 [⟨S16384x2048, (extractStridedSlice S16384x2048 ![0, 0] prev slices_S17408x2048_S16384x2048_0_0)⟩,
    ⟨S1024x2048, xc⟩] concatenates_S16384x2048_S1024x2048_S17408x2048_d0

theorem ref_lo (prev : FVec Ideal S17408x2048 .f32) (xc : FVec Ideal S1024x2048 .f32) (r : Fin 17408) (j : Fin 2048)
    (hr : r.val < 16384) : refOut prev xc (ix2 r j) = prev (ix2 r j) := by
  pointwise [refOut]
  rw [dif_pos hr]

theorem ref_hi (prev : FVec Ideal S17408x2048 .f32) (xc : FVec Ideal S1024x2048 .f32) (r : Fin 1024) (j : Fin 2048) :
    refOut prev xc (ix2 ⟨16384 + r, by omega⟩ j) = xc (ix2 r j) := by
  pointwise [refOut]

end Cert.CtxMergeMath
end
-- ==== Proof.CtxMergeBlock.lean ====
/- The gated merge of the context rows: what its blocks are, what its body leaves, and its result array, whose first rows
   are those of the array it writes into. -/
module

public import proofs.«01_k».proof.Proof.Gen.CtxMergeKernelIdeal.Value
public import proofs.«01_k».proof.Proof.CtxMergeMath
public import proofs.«01_k».proof.Defs
public import Idealize.ShloMosaic.Lib.Claim
public import Idealize.ShloMosaic.Lib.Pipeline.ValueKit

@[expose] public section

set_option maxRecDepth 16384

noncomputable section

namespace Cert.CtxMergeBlock

open Idealize.ShloMosaic Idealize.ShloMosaic.TcCoe Idealize.SL.Sem
open Idealize.ShloMosaic.Pipeline (Dat)
open Cert.CtxMergeKernelIdeal Cert.CtxMergeKernelIdeal.Gen
open Cert.MergeMath

variable (m : (ℓ : Loc nD τ sig) → Buf (Elt Ideal) ℓ) (c : Dev nD)

/-- Which block of each array the point `t` works on. -/
theorem idx : ∀ t : Fin cfg0.N, win0_0.index t = ![t.val, 0] ∧ win0_1.index t = ![4, 0, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![0, 0, 0] ∧ win0_8.index t = ![0, 0]
    ∧ win0_9.index t = ![t.val + 64, 0] ∧ t.val < 4 :=
  (by decide +kernel : ∀ t : Fin grid0.N, _)

abbrev PREV : FVec Ideal S17408x2048 .f32 := m ((c : Thread nD τ).loc main_arg0)
abbrev X : FVec Ideal S4x256x2048 .f32 := m ((c : Thread nD τ).loc main_arg1)
abbrev M : FVec Ideal S5x6x2048 .f32 := m ((c : Thread nD τ).loc main_arg2)
abbrev B0 : FVec Ideal S4x256x512 .f32 := m ((c : Thread nD τ).loc main_arg3)
abbrev B1 : FVec Ideal S4x256x512 .f32 := m ((c : Thread nD τ).loc main_arg4)
abbrev B2 : FVec Ideal S4x256x512 .f32 := m ((c : Thread nD τ).loc main_arg5)
abbrev B3 : FVec Ideal S4x256x512 .f32 := m ((c : Thread nD τ).loc main_arg6)
abbrev P : FVec Ideal S4x256x11040 .f32 := m ((c : Thread nD τ).loc main_arg7)
abbrev W0 : FVec Ideal S512x2048 .f32 := m ((c : Thread nD τ).loc main_arg8)
abbrev W1 : FVec Ideal S512x2048 .f32 := m ((c : Thread nD τ).loc main_arg9)
abbrev W2 : FVec Ideal S512x2048 .f32 := m ((c : Thread nD τ).loc main_arg10)
abbrev W3 : FVec Ideal S512x2048 .f32 := m ((c : Thread nD τ).loc main_arg11)
abbrev WO : FVec Ideal S2048x2048 .f32 := m ((c : Thread nD τ).loc main_arg12)

/-- The activations' rows, as the host line leaves them. -/
theorem x_at (r : Fin 1024) (k : Fin 2048) :
    (V m c main_v14 : FVec Ideal S1024x2048 .f32) (ix2 r k)
      = X m c (ix3 ⟨r / 256, by omega⟩ ⟨r % 256, by omega⟩ k) := by
  entry_read
  pointwise

theorem mod_at (b : Fin 8) (hb : (b : ℕ) < 5) (a : Fin 6) (k : Fin 2048) :
    (V m c main_v1 : FVec Ideal S8x6x2048 .f32) (ix3 b a k) = M m c (ix3 ⟨b, hb⟩ a k) := by
  entry_read
  pointwise
  rw [dif_pos hb]

theorem b0_at (r : Fin 1024) (d : Fin 512) : (V m c main_v16 : FVec Ideal S1024x512 .bf16) (ix2 r d)
    = B0 m c (ix3 ⟨r / 256, by omega⟩ ⟨r % 256, by omega⟩ d) := by
  entry_read
  pointwise

theorem b1_at (r : Fin 1024) (d : Fin 512) : (V m c main_v18 : FVec Ideal S1024x512 .bf16) (ix2 r d)
    = B1 m c (ix3 ⟨r / 256, by omega⟩ ⟨r % 256, by omega⟩ d) := by
  entry_read
  pointwise

theorem b2_at (r : Fin 1024) (d : Fin 512) : (V m c main_v20 : FVec Ideal S1024x512 .bf16) (ix2 r d)
    = B2 m c (ix3 ⟨r / 256, by omega⟩ ⟨r % 256, by omega⟩ d) := by
  entry_read
  pointwise

theorem b3_at (r : Fin 1024) (d : Fin 512) : (V m c main_v22 : FVec Ideal S1024x512 .bf16) (ix2 r d)
    = B3 m c (ix3 ⟨r / 256, by omega⟩ ⟨r % 256, by omega⟩ d) := by
  entry_read
  pointwise

theorem wo_at (k j : Fin 2048) : (V m c main_v24 : FVec Ideal S2048x2048 .bf16) (ix2 k j) = WO m c (ix2 k j) := by
  entry_read
  pointwise

/-- The packed columns: the gates come first. -/
theorem p_eq : (V m c main_v23 : FVec Ideal S1024x11264 .bf16)
    = shapeCast S1024x11264 (concatenate S4x256x11264 2
        [⟨S4x256x8192, extractStridedSlice S4x256x8192 ![0, 0, 2848] (truncf .bf16 (P m c) bitsLt_bf16_f32) slices_S4x256x11040_S4x256x8192_0_0_2848⟩,
         ⟨S4x256x800, extractStridedSlice S4x256x800 ![0, 0, 0] (truncf .bf16 (P m c) bitsLt_bf16_f32) slices_S4x256x11040_S4x256x800_0_0_0⟩,
         ⟨S4x256x224, broadcastInDim S4x256x224 ![] bcast_S_S4x256x224 (constant S_ .bf16 0x0000#16)⟩,
         ⟨S4x256x2048, extractStridedSlice S4x256x2048 ![0, 0, 800] (truncf .bf16 (P m c) bitsLt_bf16_f32) slices_S4x256x11040_S4x256x2048_0_0_800⟩]
        concatenates_S4x256x8192_S4x256x800_S4x256x224_S4x256x2048_S4x256x11264_d2) shapeCasts_S4x256x11264_S1024x11264 := by
  unfold V
  after_results_simp <;> (try dsimp only [Matrix.cons_val]) <;> (try after_results_simp) <;> rfl

theorem p_at (r : Fin 1024) (j : Fin 11264) (hj : (j : ℕ) < 8192) :
    (V m c main_v23 : FVec Ideal S1024x11264 .bf16) (ix2 r j)
      = P m c (ix3 ⟨r / 256, by omega⟩ ⟨r % 256, by omega⟩ ⟨2848 + j, by omega⟩) := by
  rw [p_eq]
  pointwise
  rw [dif_pos hj]

/-- The four branches' matrices, stacked. -/
theorem w_eq : (V m c main_v13 : FVec Ideal S4x512x2048 .bf16)
    = truncf .bf16 (concatenate S4x512x2048 0
        [⟨S1x512x2048, broadcastInDim S1x512x2048 ![1, 2] bcast_S512x2048_S1x512x2048_1_2 (W0 m c)⟩,
         ⟨S1x512x2048, broadcastInDim S1x512x2048 ![1, 2] bcast_S512x2048_S1x512x2048_1_2 (W1 m c)⟩,
         ⟨S1x512x2048, broadcastInDim S1x512x2048 ![1, 2] bcast_S512x2048_S1x512x2048_1_2 (W2 m c)⟩,
         ⟨S1x512x2048, broadcastInDim S1x512x2048 ![1, 2] bcast_S512x2048_S1x512x2048_1_2 (W3 m c)⟩]
        concatenates_S1x512x2048_S1x512x2048_S1x512x2048_S1x512x2048_S4x512x2048_d0) bitsLt_bf16_f32 := by
  unfold V
  after_results_simp <;> (try dsimp only [Matrix.cons_val]) <;> (try after_results_simp) <;> rfl

theorem w_at (d : Fin 512) (k : Fin 2048) :
    (V m c main_v13 : FVec Ideal S4x512x2048 .bf16) (ix3 0 d k) = W0 m c (ix2 d k)
    ∧ (V m c main_v13 : FVec Ideal S4x512x2048 .bf16) (ix3 1 d k) = W1 m c (ix2 d k)
    ∧ (V m c main_v13 : FVec Ideal S4x512x2048 .bf16) (ix3 2 d k) = W2 m c (ix2 d k)
    ∧ (V m c main_v13 : FVec Ideal S4x512x2048 .bf16) (ix3 3 d k) = W3 m c (ix2 d k) := by
  rw [w_eq]
  refine ⟨?_, ?_, ?_, ?_⟩ <;> pointwise

/-- The gates' block, read off the packed columns. -/
theorem gate_blk (t : Fin cfg0.N) (y : Fin 256) (j : Fin 8192) :
    (X0_6 m c t : FVec Ideal S256x8192 .bf16) (ix2 y j)
      = (V m c main_v23 : FVec Ideal S1024x11264 .bf16) (ix2 ⟨t.val * 256 + y, by have := lt_of_lt_of_eq t.isLt N_0; omega⟩ ⟨j, by omega⟩) := by
  unfold X0_6 Pipeline.Window.fill
  rw [dif_pos (moved0_6 t _)]
  blk_ext [iblk, idx t]

/-- The array written into, as the host line leaves it. -/
theorem prev_at (i : S17408x2048.Idx) : (V m c main_v25 : FVec Ideal S17408x2048 .f32) i = PREV m c i := by
  entry_read
  rfl

/-- The merged context row `(b, l)` at channel `j`. -/
def merged (b : Fin 4) (l : Fin 256) (j : Fin 2048) : EReal :=
  X m c (ix3 b l j) + @HMul.hMul EReal EReal EReal _ (M m c (ix3 4 2 j))
    (∑ k : Fin 2048, (branch 0 (by omega) (P m c) (B0 m c) (W0 m c) b l k + branch 1 (by omega) (P m c) (B1 m c) (W1 m c) b l k
      + branch 2 (by omega) (P m c) (B2 m c) (W2 m c) b l k + branch 3 (by omega) (P m c) (B3 m c) (W3 m c) b l k)
      * WO m c (ix2 k j))

set_option maxHeartbeats 1000000 in
/-- What a point leaves in the output block: the sample's merged rows. -/
theorem out_at (t : Fin cfg0.N) (ht : t.val < 4) (y : Fin 256) (j : Fin 2048) :
    outsAt0 m c t (ix2 y j) = merged m c ⟨t.val, ht⟩ y j := by
  have hr : t.val * 256 + y < 1024 := by omega
  have hb : (⟨(t.val * 256 + y) / 256, by omega⟩ : Fin 4) = ⟨t.val, ht⟩ := Fin.ext (by dsimp only; omega)
  have hl : (⟨(t.val * 256 + y) % 256, by omega⟩ : Fin 256) = y := Fin.ext (by dsimp only; omega)
  have e0 : (iblk m c 0 t : FVec Ideal S256x2048 .f32) (ix2 y j) = X m c (ix3 ⟨t.val, ht⟩ y j) := by
    refine Eq.trans ?_ ((x_at m c ⟨t.val * 256 + y, hr⟩ j).trans (by rw [hb, hl]))
    blk_ext [iblk, idx t]
  have e1 : (iblk m c 1 t : FVec Ideal S1x6x2048 .f32) (ix3 0 2 j) = M m c (ix3 4 2 j) := by
    refine Eq.trans ?_ ((mod_at m c 4 (by decide) 2 j).trans ?_)
    · blk_ext [iblk, idx t]
    · rfl
  have e2 : ∀ d : Fin 512, (iblk m c 2 t : FVec Ideal S256x512 .bf16) (ix2 y d) = B0 m c (ix3 ⟨t.val, ht⟩ y d) := fun d => by
    refine Eq.trans ?_ ((b0_at m c ⟨t.val * 256 + y, hr⟩ d).trans (by rw [hb, hl]))
    blk_ext [iblk, idx t]
  have e3 : ∀ d : Fin 512, (iblk m c 3 t : FVec Ideal S256x512 .bf16) (ix2 y d) = B1 m c (ix3 ⟨t.val, ht⟩ y d) := fun d => by
    refine Eq.trans ?_ ((b1_at m c ⟨t.val * 256 + y, hr⟩ d).trans (by rw [hb, hl]))
    blk_ext [iblk, idx t]
  have e4 : ∀ d : Fin 512, (iblk m c 4 t : FVec Ideal S256x512 .bf16) (ix2 y d) = B2 m c (ix3 ⟨t.val, ht⟩ y d) := fun d => by
    refine Eq.trans ?_ ((b2_at m c ⟨t.val * 256 + y, hr⟩ d).trans (by rw [hb, hl]))
    blk_ext [iblk, idx t]
  have e5 : ∀ d : Fin 512, (iblk m c 5 t : FVec Ideal S256x512 .bf16) (ix2 y d) = B3 m c (ix3 ⟨t.val, ht⟩ y d) := fun d => by
    refine Eq.trans ?_ ((b3_at m c ⟨t.val * 256 + y, hr⟩ d).trans (by rw [hb, hl]))
    blk_ext [iblk, idx t]
  have e6 : ∀ z : Fin 8192, (X0_6 m c t : FVec Ideal S256x8192 .bf16) (ix2 y z) = P m c (ix3 ⟨t.val, ht⟩ y ⟨2848 + z, by omega⟩) :=
    fun z => (gate_blk m c t y z).trans ((p_at m c ⟨t.val * 256 + y, hr⟩ ⟨z, by omega⟩ z.isLt).trans (by rw [hb, hl]))
  have e7 : ∀ (i : Fin 4) (d : Fin 512) (k : Fin 2048), (iblk m c 7 t : FVec Ideal S4x512x2048 .bf16) (ix3 i d k)
      = (V m c main_v13 : FVec Ideal S4x512x2048 .bf16) (ix3 i d k) := fun i d k => by
    blk_ext [iblk, idx t]
  have e8 : ∀ k : Fin 2048, (iblk m c 8 t : FVec Ideal S2048x2048 .bf16) (ix2 k j) = WO m c (ix2 k j) := fun k => by
    refine Eq.trans ?_ (wo_at m c k j)
    blk_ext [iblk, idx t]
  unfold outsAt0
  frame_out
  pointwise [k0_pay1, k0_pay2, k0_pay3, k0_pay4, merged, branch, gate]
  simp only [e0, e1, e2, e3, e4, e5, e6, e7, e8, (w_at m c _ _).1, (w_at m c _ _).2.1, (w_at m c _ _).2.2.1, (w_at m c _ _).2.2.2]
  rfl

/-- An array that is the one written into up to row 16384 and the merged rows from there on is what the kernel leaves. -/
theorem final (A : FVec Ideal S17408x2048 .f32)
    (hlo : ∀ (r : Fin 17408) (j : Fin 2048), r.val < 16384 → A (ix2 r j) = PREV m c (ix2 r j))
    (hhi : ∀ (b : Fin 4) (l : Fin 256) (j : Fin 2048), A (ix2 ⟨16384 + (b * 256 + l), by omega⟩ j) = merged m c b l j) :
    (dats m 0 c).arrAt 9 (cfgs 0).N = A := by
  funext i
  by_cases h : ∃ t : Fin cfg0.N, i ∈ ((cfg0.win 9).blk t).view.set
  · obtain ⟨t, hi⟩ := h
    obtain ⟨y, rfl⟩ := View.exists_emb_of_mem_set _ hi
    refine (congrFun (Value.blocks9 m c t ((by decide +kernel : ∀ t : Fin cfg0.N, (cfg0.win 9).flush t = true) t)) y).trans ?_
    rw [Value.flushed9]
    idx_vars y
    have hN : t.val < 4 := lt_of_lt_of_eq t.isLt N_0
    refine (show _ = outsAt0 m c t (ix2 y0 y1) from rfl).trans ?_
    rw [out_at m c t hN, ← hhi]
    refine congrArg A ?_
    blk_ext [idx t]
  · refine (Value.entry9 m c i fun t _ hi => h ⟨t, hi⟩).trans ((prev_at m c i).trans ?_)
    idx_vars i
    refine (hlo _ _ ?_).symm
    by_contra hr
    obtain ⟨t, ht⟩ : ∃ t : Fin cfg0.N, t.val = (i0.val - 16384) / 256 :=
      ⟨⟨_, lt_of_lt_of_eq (by omega : (i0.val - 16384) / 256 < 4) N_0.symm⟩, rfl⟩
    refine h ⟨t, ?_⟩
    mem_blk [idx t]
    show ((t.val + 64) * 256 ≤ i0.val ∧ i0.val < (t.val + 64) * 256 + 256) ∧ 0 ≤ i1.val ∧ i1.val < 2048
    omega

/-- What the kernel leaves is the reference's array, of arguments that are the kernel's. -/
theorem final_ref (prev : FVec Ideal S17408x2048 .f32) (x : FVec Ideal S4x256x2048 .f32) (mod : FVec Ideal S5x6x2048 .f32)
    (b0 b1 b2 b3 : FVec Ideal S4x256x512 .f32) (p : FVec Ideal S4x256x11040 .f32) (w0 w1 w2 w3 : FVec Ideal S512x2048 .f32)
    (wo : FVec Ideal S2048x2048 .f32) (hprev : prev = PREV m c) (hx : x = X m c) (hmod : mod = M m c) (hb0 : b0 = B0 m c)
    (hb1 : b1 = B1 m c) (hb2 : b2 = B2 m c) (hb3 : b3 = B3 m c) (hp : p = P m c) (hw0 : w0 = W0 m c) (hw1 : w1 = W1 m c)
    (hw2 : w2 = W2 m c) (hw3 : w3 = W3 m c) (hwo : wo = WO m c) :
    CtxMergeMath.refOut prev (CtxMergeMath.rows x mod b0 b1 b2 b3 p w0 w1 w2 w3 wo) = (dats m 0 c).arrAt 9 (cfgs 0).N := by
  subst hprev hx hmod hb0 hb1 hb2 hb3 hp hw0 hw1 hw2 hw3 hwo
  exact (final m c _ (fun r j hr => CtxMergeMath.ref_lo _ _ r j hr) fun b l j =>
    (CtxMergeMath.ref_hi _ _ ⟨b * 256 + l, by omega⟩ j).trans (CtxMergeMath.rows_at _ _ _ _ _ _ _ _ _ _ _ _ b l j)).symm

/-- The context rows' merge and its reference leave the same array. -/
theorem algebraic : Cert.algebraic_CtxMergeKernelIdeal_CtxMergeReferenceIdeal := by
  pair_intro
  · run_from Cert.CtxMergeKernelIdeal.Gen.run_main m g
  · run_from Cert.CtxMergeReferenceIdeal.Value.run m' g'
    obtain ⟨h0, h1, h2, h3, h4, h5, h6, h7, h8, h9, h10, h11, h12⟩ := hagree c
    refine final_ref m c _ _ _ _ _ _ _ _ _ _ _ _ _ ?_ ?_ ?_ ?_ ?_ ?_ ?_ ?_ ?_ ?_ ?_ ?_ ?_ <;> first | rfl | assumption

end Cert.CtxMergeBlock
end
-- ==== Proof.LastProjBlock.lean ====
/- The last layer's projection of the context rows: one point, its blocks, what its body leaves, and its result array. -/
module

public import proofs.«01_k».proof.Proof.Gen.LastProjKernelIdeal.Value
public import proofs.«01_k».proof.Proof.CtxProjBlock
public import proofs.«01_k».proof.Proof.Gen.LastProjReferenceIdeal.Run
public import proofs.«01_k».proof.Defs
public import Idealize.ShloMosaic.Lib.Claim
public import Idealize.ShloMosaic.Lib.Pipeline.ValueKit

@[expose] public section

set_option maxRecDepth 16384

noncomputable section

namespace Cert.LastProjBlock

open Idealize.ShloMosaic Idealize.ShloMosaic.TcCoe Idealize.SL.Sem
open Idealize.ShloMosaic.Pipeline (Dat)
open Cert.LastProjKernelIdeal Cert.LastProjKernelIdeal.Gen
open Cert.ProjMath (hRow restAt rest_pieces)
open Cert.CtxProjBlock (hAt)

variable (m : (ℓ : Loc nD τ sig) → Buf (Elt Ideal) ℓ) (c : Dev nD)

/-- Every block is the array's first, but for the modulation's, which is the row after the four samples'. -/
theorem idx : ∀ t : Fin cfg0.N, win0_0.index t = ![0, 0] ∧ win0_1.index t = ![0, 0]
    ∧ win0_2.index t = ![4, 0, 0] ∧ win0_4.index t = ![0, 0] ∧ win0_5.index t = ![0, 0] :=
  (by decide +kernel : ∀ t : Fin grid0.N, _)

abbrev X : FVec Ideal S4x256x2048 .f32 := m ((c : Thread nD τ).loc main_arg0)
abbrev G : FVec Ideal S2048 .f32 := m ((c : Thread nD τ).loc main_arg1)
abbrev M : FVec Ideal S5x6x2048 .f32 := m ((c : Thread nD τ).loc main_arg2)
abbrev W : FVec Ideal S2048x11040 .f32 := m ((c : Thread nD τ).loc main_arg3)

/-- The latent-attention columns of a row's projection, with zeros after them. -/
theorem padded (w : FVec Ideal S2048x11040 .f32) (h : Fin 2048 → EReal) (j : Fin 1024) :
    (if _ : (j : ℕ) < 800 then ∑ k, h k * w (ix2 k ⟨j, by omega⟩) else 0) = ∑ k, h k * restAt w k ⟨j, by omega⟩ := by
  unfold restAt
  by_cases h1 : (j : ℕ) < 800
  · simp only [dif_pos h1]
  · simp only [dif_neg h1, dif_pos j.isLt, mul_zero, Finset.sum_const_zero]

/-- The block of context rows is all of them. -/
theorem x_blk (t : Fin cfg0.N) (r : Fin 1024) (k : Fin 2048) : (iblk m c 0 t : FVec Ideal S1024x2048 .f32) (ix2 r k)
    = X m c (ix3 ⟨r / 256, by omega⟩ ⟨r % 256, by omega⟩ k) := by
  have e : (V m c main_v10 : FVec Ideal S1024x2048 .f32) (ix2 r k) = X m c (ix3 ⟨r / 256, by omega⟩ ⟨r % 256, by omega⟩ k) := by
    entry_read
    pointwise
  refine Eq.trans ?_ e
  blk_ext [iblk, idx t]

theorem g_blk (t : Fin cfg0.N) (k : Fin 2048) : (iblk m c 1 t : FVec Ideal S1x2048 .f32) (ix2 0 k) = G m c (ix1 k) := by
  have e : (V m c main_v11 : FVec Ideal S1x2048 .f32) (ix2 0 k) = G m c (ix1 k) := by
    entry_read
    pointwise
  refine Eq.trans ?_ e
  blk_ext [iblk, idx t]

theorem mod_blk (t : Fin cfg0.N) (a : Fin 6) (k : Fin 2048) :
    (iblk m c 2 t : FVec Ideal S1x6x2048 .f32) (ix3 0 a k) = M m c (ix3 4 a k) := by
  have e : (V m c main_v1 : FVec Ideal S8x6x2048 .f32) (ix3 4 a k) = M m c (ix3 4 a k) := by
    entry_read
    pointwise
  refine Eq.trans ?_ e
  blk_ext [iblk, idx t]

/-- The packed matrix's other columns: the latent-attention columns, 224 of zeros, the other branches' columns. -/
theorem wr_eq : (V m c main_v7 : FVec Ideal S2048x3072 .bf16)
    = concatenate S2048x3072 1
        [⟨S2048x800, truncf .bf16 (extractStridedSlice S2048x800 ![0, 0] (W m c) slices_S2048x11040_S2048x800_0_0) bitsLt_bf16_f32⟩,
         ⟨S2048x224, broadcastInDim S2048x224 ![] bcast_S_S2048x224 (constant S_ .bf16 0x0000#16)⟩,
         ⟨S2048x2048, truncf .bf16 (extractStridedSlice S2048x2048 ![0, 800] (W m c) slices_S2048x11040_S2048x2048_0_800) bitsLt_bf16_f32⟩]
        concatenates_S2048x800_S2048x224_S2048x2048_S2048x3072_d1 := by
  unfold V
  after_results_simp <;> (try dsimp only [Matrix.cons_val]) <;> (try after_results_simp) <;> rfl

/-- The matrix's block is the latent-attention columns and their padding. -/
theorem w_blk (t : Fin cfg0.N) (k : Fin 2048) (j : Fin 1024) :
    (iblk m c 4 t : FVec Ideal S2048x1024 .bf16) (ix2 k j) = restAt (W m c) k ⟨j, by omega⟩ := by
  have e : (V m c main_v7 : FVec Ideal S2048x3072 .bf16) (ix2 k ⟨j, by omega⟩) = restAt (W m c) k ⟨j, by omega⟩ := by
    rw [wr_eq]
    refine Eq.trans ?_ (rest_pieces _ k _)
    pointwise
  refine Eq.trans ?_ e
  blk_ext [iblk, idx t]

/-- What the point leaves in the output block. -/
theorem out_at (t : Fin cfg0.N) (y : Fin 1024) (j : Fin 1024) :
    outsAt0 m c t (ix2 y j) = ∑ k : Fin 2048, hAt (X m c) (G m c) (M m c) y k * restAt (W m c) k ⟨j, by omega⟩ := by
  unfold outsAt0
  frame_out
  pointwise [k0_pay2, k0_pay3]
  refine Finset.sum_congr rfl fun k _ => ?_
  refine Ideal.mul_congr ?_ (w_blk m c t k j)
  rw [View.readCov_eq_canon']
  canon_tiles x h
  all_goals
    pointwise [k0_pay1, k0_pay4, k0_pay5, k0_pay6, k0_pay7, k0_pay8, k0_pay9, k0_pay10, k0_pay11, hAt, hRow]
  all_goals
    idx_vars x
  all_goals
    first
      | change 0 + 1 * (y : ℕ) = 768 + (x0 : ℕ) at h0
      | change 0 + 1 * (y : ℕ) = 512 + (x0 : ℕ) at h0
      | change 0 + 1 * (y : ℕ) = 256 + (x0 : ℕ) at h0
      | change 0 + 1 * (y : ℕ) = (x0 : ℕ) at h0
    obtain rfl : k = x1 := Fin.ext (by change 0 + 1 * (k : ℕ) = x1 at h1; omega)
    rw [Nat.zero_add, Nat.one_mul] at h0
    simp only [x_blk, g_blk, mod_blk, h0]

/-- The array the kernel leaves, from the rows and the columns. -/
theorem final (A : FVec Ideal S1024x1024 .bf16)
    (hA : ∀ r j, A (ix2 r j) = ∑ k : Fin 2048, hAt (X m c) (G m c) (M m c) r k * restAt (W m c) k ⟨j, by omega⟩) :
    (dats m 0 c).arrAt 5 (cfgs 0).N = A := by
  refine (dats m 0 c).arrAt_eq_of_covers 5 _ (by decide +kernel) fun t hf y => ?_
  blk_simp
  rw [after0_5]
  idx_vars y
  rw [out_at m c t]
  have e : ((View.whole main_v12).slice (win0_5.rect t)).emb (ix2 y0 y1) = (ix2 y0 y1 : S1024x1024.Idx) := by
    blk_ext [idx t]
  rw [e, hA]

/-- The last layer's context projection and its reference leave the same array. -/
theorem algebraic : Cert.algebraic_LastProjKernelIdeal_LastProjReferenceIdeal := by
  pair_intro
  · run_from Cert.LastProjKernelIdeal.Gen.run_main m g
  · run_from Cert.LastProjReferenceIdeal.Value.run m' g'
    refine (final m c _ fun r j => ?_).symm
    have e : ∀ k : Fin 2048, restAt (m' (c.tc.loc Cert.LastProjReferenceIdeal.main_arg3)) k ⟨j, by omega⟩
        = restAt (W m c) k ⟨j, by omega⟩ := fun k =>
      congrArg (fun w : FVec Ideal S2048x11040 .f32 => restAt w k ⟨j, by omega⟩) (hagree c).2.2.2
    refine Eq.trans ?_ ((padded _ _ j).trans (Finset.sum_congr rfl fun k _ => Ideal.mul_congr rfl (e k)))
    pointwise [hAt, hRow]

end Cert.LastProjBlock
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.CtxProjKernel
public import proofs.«01_k».proof.Proof.Gen.CtxProjKernel.Skeleton
public import proofs.«01_k».proof.Proof.Gen.CtxProjKernel.Launch
public import proofs.«01_k».proof.Proof.Gen.CtxProjKernel.Points
public import proofs.«01_k».proof.Proof.Gen.CtxProjKernel.Frame
public import proofs.«01_k».proof.Proof.Gen.CtxProjKernelIdeal
public import proofs.«01_k».proof.Proof.Gen.CtxProjKernelIdeal.Skeleton
public import proofs.«01_k».proof.Proof.Gen.CtxProjKernelIdeal.Launch
public import proofs.«01_k».proof.Proof.Gen.CtxProjKernelIdeal.Points
public import proofs.«01_k».proof.Proof.Gen.CtxProjKernelIdeal.Frame
public import proofs.«01_k».proof.Proof.Gen.CtxProjReferenceIdeal
public import proofs.«01_k».proof.Proof.Gen.ModKernel
public import proofs.«01_k».proof.Proof.Gen.ModKernel.Skeleton
public import proofs.«01_k».proof.Proof.Gen.ModKernel.Launch
public import proofs.«01_k».proof.Proof.Gen.ModKernel.Points
public import proofs.«01_k».proof.Proof.Gen.ModKernel.Frame
public import proofs.«01_k».proof.Proof.Gen.ModKernelIdeal
public import proofs.«01_k».proof.Proof.Gen.ModKernelIdeal.Skeleton
public import proofs.«01_k».proof.Proof.Gen.ModKernelIdeal.Launch
public import proofs.«01_k».proof.Proof.Gen.ModKernelIdeal.Points
public import proofs.«01_k».proof.Proof.Gen.ModKernelIdeal.Frame
public import proofs.«01_k».proof.Proof.Gen.ModReferenceIdeal
public import proofs.«01_k».proof.Proof.Gen.CtxMergeKernel
public import proofs.«01_k».proof.Proof.Gen.CtxMergeKernel.Skeleton
public import proofs.«01_k».proof.Proof.Gen.CtxMergeKernel.Launch
public import proofs.«01_k».proof.Proof.Gen.CtxMergeKernel.Points
public import proofs.«01_k».proof.Proof.Gen.CtxMergeKernel.Frame
public import proofs.«01_k».proof.Proof.Gen.CtxMergeKernelIdeal
public import proofs.«01_k».proof.Proof.Gen.CtxMergeKernelIdeal.Skeleton
public import proofs.«01_k».proof.Proof.Gen.CtxMergeKernelIdeal.Launch
public import proofs.«01_k».proof.Proof.Gen.CtxMergeKernelIdeal.Points
public import proofs.«01_k».proof.Proof.Gen.CtxMergeKernelIdeal.Frame
public import proofs.«01_k».proof.Proof.Gen.CtxMergeReferenceIdeal
public import proofs.«01_k».proof.Proof.Gen.LastProjKernel
public import proofs.«01_k».proof.Proof.Gen.LastProjKernel.Skeleton
public import proofs.«01_k».proof.Proof.Gen.LastProjKernel.Launch
public import proofs.«01_k».proof.Proof.Gen.LastProjKernel.Points
public import proofs.«01_k».proof.Proof.Gen.LastProjKernel.Frame
public import proofs.«01_k».proof.Proof.Gen.LastProjKernelIdeal
public import proofs.«01_k».proof.Proof.Gen.LastProjKernelIdeal.Skeleton
public import proofs.«01_k».proof.Proof.Gen.LastProjKernelIdeal.Launch
public import proofs.«01_k».proof.Proof.Gen.LastProjKernelIdeal.Points
public import proofs.«01_k».proof.Proof.Gen.LastProjKernelIdeal.Frame
public import proofs.«01_k».proof.Proof.Gen.LastProjReferenceIdeal
public import proofs.«01_k».proof.Proof.Gen.KernelIdeal.Value
public import proofs.«01_k».proof.Proof.Gen.ReferenceIdeal.Run
public import proofs.«01_k».proof.Proof.Gen.ProjKernelIdeal.Value
public import proofs.«01_k».proof.Proof.Gen.ProjReferenceIdeal.Run
public import proofs.«01_k».proof.Proof.Gen.MergeKernelIdeal.Value
public import proofs.«01_k».proof.Proof.Gen.MergeReferenceIdeal.Run
public import proofs.«01_k».proof.Proof.Gen.CtxProjKernelIdeal.Value
public import proofs.«01_k».proof.Proof.Gen.CtxProjReferenceIdeal.Run
public import proofs.«01_k».proof.Proof.Gen.ModKernelIdeal.Value
public import proofs.«01_k».proof.Proof.Gen.ModReferenceIdeal.Run
public import proofs.«01_k».proof.Proof.Gen.CtxMergeKernelIdeal.Value
public import proofs.«01_k».proof.Proof.Gen.CtxMergeReferenceIdeal.Run
public import proofs.«01_k».proof.Proof.Gen.LastProjKernelIdeal.Value
public import proofs.«01_k».proof.Proof.Gen.LastProjReferenceIdeal.Run
public import proofs.«01_k».proof.Proof.AttnBlock
public import proofs.«01_k».proof.Proof.ProjBlock
public import proofs.«01_k».proof.Proof.MergeBlock
public import proofs.«01_k».proof.Proof.CtxProjBlock
public import proofs.«01_k».proof.Proof.ModBlock
public import proofs.«01_k».proof.Proof.CtxMergeBlock
public import proofs.«01_k».proof.Proof.LastProjBlock
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

theorem reference_frame : Cert.quiescent_ReferenceIdeal := fun m g _ =>
  (θ_run _ _ _).mono (fun r h => ⟨fun c => (h c).2, sem_eq_zero_of_no_sems (by decide) _⟩) (Cert.ReferenceIdeal.Value.run (F := Ideal) m g)

theorem projreference_frame : Cert.quiescent_ProjReferenceIdeal := fun m g _ =>
  (θ_run _ _ _).mono (fun r h => ⟨fun c => (h c).2, sem_eq_zero_of_no_sems (by decide) _⟩) (Cert.ProjReferenceIdeal.Value.run (F := Ideal) m g)

theorem mergereference_frame : Cert.quiescent_MergeReferenceIdeal := fun m g _ =>
  (θ_run _ _ _).mono (fun r h => ⟨fun c => (h c).2, sem_eq_zero_of_no_sems (by decide) _⟩) (Cert.MergeReferenceIdeal.Value.run (F := Ideal) m g)

theorem ctxprojreference_frame : Cert.quiescent_CtxProjReferenceIdeal := fun m g _ =>
  (θ_run _ _ _).mono (fun r h => ⟨fun c => (h c).2, sem_eq_zero_of_no_sems (by decide) _⟩) (Cert.CtxProjReferenceIdeal.Value.run (F := Ideal) m g)

theorem modreference_frame : Cert.quiescent_ModReferenceIdeal := fun m g _ =>
  (θ_run _ _ _).mono (fun r h => ⟨fun c => (h c).2, sem_eq_zero_of_no_sems (by decide) _⟩) (Cert.ModReferenceIdeal.Value.run (F := Ideal) m g)

theorem ctxmergereference_frame : Cert.quiescent_CtxMergeReferenceIdeal := fun m g _ =>
  (θ_run _ _ _).mono (fun r h => ⟨fun c => (h c).2, sem_eq_zero_of_no_sems (by decide) _⟩) (Cert.CtxMergeReferenceIdeal.Value.run (F := Ideal) m g)

theorem lastprojreference_frame : Cert.quiescent_LastProjReferenceIdeal := fun m g _ =>
  (θ_run _ _ _).mono (fun r h => ⟨fun c => (h c).2, sem_eq_zero_of_no_sems (by decide) _⟩) (Cert.LastProjReferenceIdeal.Value.run (F := Ideal) m g)

theorem claim : Cert.Claim := ⟨Cert.Kernel.Gen.facts, Cert.KernelIdeal.Gen.facts, Cert.ReferenceIdeal.Gen.facts,
  Cert.ProjKernel.Gen.facts, Cert.ProjKernelIdeal.Gen.facts, Cert.ProjReferenceIdeal.Gen.facts, Cert.MergeKernel.Gen.facts,
  Cert.MergeKernelIdeal.Gen.facts, Cert.MergeReferenceIdeal.Gen.facts,
  Cert.CtxProjKernel.Gen.facts, Cert.CtxProjKernelIdeal.Gen.facts, Cert.CtxProjReferenceIdeal.Gen.facts,
  Cert.ModKernel.Gen.facts, Cert.ModKernelIdeal.Gen.facts, Cert.ModReferenceIdeal.Gen.facts,
  Cert.CtxMergeKernel.Gen.facts, Cert.CtxMergeKernelIdeal.Gen.facts, Cert.CtxMergeReferenceIdeal.Gen.facts,
  Cert.LastProjKernel.Gen.facts, Cert.LastProjKernelIdeal.Gen.facts, Cert.LastProjReferenceIdeal.Gen.facts, AttnBlock.preFacts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.ProjKernel.Gen.frame m ρ, fun m ρ _ => Cert.ProjKernelIdeal.Gen.frame m ρ, projreference_frame,
  fun m ρ _ => Cert.MergeKernel.Gen.frame m ρ, fun m ρ _ => Cert.MergeKernelIdeal.Gen.frame m ρ, mergereference_frame,
  fun m ρ _ => Cert.CtxProjKernel.Gen.frame m ρ, fun m ρ _ => Cert.CtxProjKernelIdeal.Gen.frame m ρ, ctxprojreference_frame,
  fun m ρ _ => Cert.ModKernel.Gen.frame m ρ, fun m ρ _ => Cert.ModKernelIdeal.Gen.frame m ρ, modreference_frame,
  fun m ρ _ => Cert.CtxMergeKernel.Gen.frame m ρ, fun m ρ _ => Cert.CtxMergeKernelIdeal.Gen.frame m ρ, ctxmergereference_frame,
  fun m ρ _ => Cert.LastProjKernel.Gen.frame m ρ, fun m ρ _ => Cert.LastProjKernelIdeal.Gen.frame m ρ, lastprojreference_frame,
  trivial, AttnBlock.algebraic, trivial, ProjBlock.algebraic, trivial, MergeBlock.algebraic,
  trivial, CtxProjBlock.algebraic, trivial, ModBlock.algebraic,
  trivial, CtxMergeBlock.algebraic, trivial, LastProjBlock.algebraic⟩

end Cert.Proof

end
